-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids [hPre_ids : Cert.Pre_ids.Facts] (m : (ℓ : Loc Cert.KernelIdeal.nD Cert.KernelIdeal.τ Cert.KernelIdeal.sig) → Buf (Elt Ideal) ℓ) : Prop :=
  ∀ c : Dev Cert.KernelIdeal.nD,
    (Cert.Pre_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_finite_ids [hPre_finite_ids : Cert.Pre_finite_ids.Facts] (m : (ℓ : Loc Cert.KernelIdeal.nD Cert.KernelIdeal.τ Cert.KernelIdeal.sig) → Buf (Elt Ideal) ℓ) : Prop :=
  ∀ c : Dev Cert.KernelIdeal.nD,
    (Cert.Pre_finite_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids [hPre_ids : Cert.Pre_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_ids [hKernelIdeal : Cert.KernelIdeal.Facts] [hPre_ids : Cert.Pre_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_ids [hKernelIdeal : Cert.KernelIdeal.Facts] [hPre_finite_ids : Cert.Pre_finite_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_ids m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_ids [hReferenceIdeal : Cert.ReferenceIdeal.Facts] [hPre_ids : Cert.Pre_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "horner13" .f32 0xAF309231#32 ((-1 / 6227020800 : ℝ) : EReal)
  ∧ IdealRules.named_const.Statement Cert.KernelIdeal.κ "horner11" .f32 0x32D7322B#32 ((1 / 39916800 : ℝ) : EReal)
  ∧ IdealRules.named_const.Statement Cert.KernelIdeal.κ "horner9" .f32 0xB638EF1D#32 ((-1 / 362880 : ℝ) : EReal)
  ∧ IdealRules.named_const.Statement Cert.KernelIdeal.κ "horner7" .f32 0x39500D01#32 ((1 / 5040 : ℝ) : EReal)
  ∧ IdealRules.named_const.Statement Cert.KernelIdeal.κ "horner5" .f32 0xBC088889#32 ((-1 / 120 : ℝ) : EReal)
  ∧ IdealRules.named_const.Statement Cert.KernelIdeal.κ "horner3" .f32 0x3E2AAAAB#32 ((1 / 6 : ℝ) : EReal)

def algebraic_KernelIdeal_ReferenceIdeal_pre_ids [hKernelIdeal : Cert.KernelIdeal.Facts] [hReferenceIdeal : Cert.ReferenceIdeal.Facts] [hPre_ids : Cert.Pre_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def holds_KernelIdeal_near_sine_pre_finite_ids [hKernelIdeal : Cert.KernelIdeal.Facts] [hPre_finite_ids : Cert.Pre_finite_ids.Facts] [hPost_near_sine : Cert.Post_near_sine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_ids m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ (Cert.Post_near_sine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (r.2.mem ((c.tc : Thread Cert.KernelIdeal.nD Cert.KernelIdeal.τ).loc Cert.KernelIdeal.main_v37))) = (fun _ => 1#1))

def Claim : Prop :=
  ∃ (hKernel : Cert.Kernel.Facts) (hKernelIdeal : Cert.KernelIdeal.Facts) (hReferenceIdeal : Cert.ReferenceIdeal.Facts) (hPre_ids : Cert.Pre_ids.Facts) (hPre_finite_ids : Cert.Pre_finite_ids.Facts) (hPost_near_sine : Cert.Post_near_sine.Facts),
    quiescent_Kernel (hKernel := hKernel)
    ∧ quiescent_KernelIdeal (hKernelIdeal := hKernelIdeal)
    ∧ quiescent_KernelIdeal_pre_ids (hKernelIdeal := hKernelIdeal) (hPre_ids := hPre_ids)
    ∧ quiescent_KernelIdeal_pre_finite_ids (hKernelIdeal := hKernelIdeal) (hPre_finite_ids := hPre_finite_ids)
    ∧ quiescent_ReferenceIdeal (hReferenceIdeal := hReferenceIdeal)
    ∧ quiescent_ReferenceIdeal_pre_ids (hReferenceIdeal := hReferenceIdeal) (hPre_ids := hPre_ids)
    ∧ preserves_Kernel_KernelIdeal
    ∧ algebraic_KernelIdeal_ReferenceIdeal_pre_ids (hKernelIdeal := hKernelIdeal) (hReferenceIdeal := hReferenceIdeal) (hPre_ids := hPre_ids)
    ∧ holds_KernelIdeal_near_sine_pre_finite_ids (hKernelIdeal := hKernelIdeal) (hPre_finite_ids := hPre_finite_ids) (hPost_near_sine := hPost_near_sine)
-- ==== Post_near_sine.lean ====
abbrev S4096x200x3 : Shape := ⟨3, ![4096, 200, 3]⟩
abbrev S4096x200x1 : Shape := ⟨3, ![4096, 200, 1]⟩
abbrev S63x1 : Shape := ⟨2, ![63, 1]⟩
abbrev S63 : Shape := ⟨1, ![63]⟩
abbrev S1x1 : Shape := ⟨2, ![1, 1]⟩
abbrev S1 : Shape := ⟨1, ![1]⟩
abbrev S128x64 : Shape := ⟨2, ![128, 64]⟩
abbrev S64x1 : Shape := ⟨2, ![64, 1]⟩
abbrev S64 : Shape := ⟨1, ![64]⟩
abbrev S4096x200x64 : Shape := ⟨3, ![4096, 200, 64]⟩
abbrev S1x1x1 : Shape := ⟨3, ![1, 1, 1]⟩
abbrev S1x63 : Shape := ⟨2, ![1, 63]⟩
abbrev S4096x200x63 : Shape := ⟨3, ![4096, 200, 63]⟩
abbrev S1x1x63 : Shape := ⟨3, ![1, 1, 63]⟩
abbrev S4096x200 : Shape := ⟨2, ![4096, 200]⟩
abbrev S_ : Shape := ⟨0, ![]⟩
abbrev S1x64 : Shape := ⟨2, ![1, 64]⟩
abbrev S1x1x64 : Shape := ⟨3, ![1, 1, 64]⟩

class Facts : Prop where
  slices_S4096x200x3_S4096x200x1_0_0_0 : S4096x200x3.Slices ![0, 0, 0] S4096x200x1
  transposes_S1x1_S1x1_1_0 : S1x1.Transposes [1, 0] S1x1
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  transposes_S63x1_S1x63_1_0 : S63x1.Transposes [1, 0] S1x63
  bcast_S63_S1x1x63_2 : S63.BroadcastsInDim S1x1x63 (![2] : Fin 1 → Fin S1x1x63.rank)
  bcast_S1x1x63_S4096x200x63_0_1_2 : S1x1x63.BroadcastsInDim S4096x200x63 (![0, 1, 2] : Fin 3 → Fin S4096x200x63.rank)
  concatenates_S4096x200x1_S4096x200x63_S4096x200x64_d2 : Shape.Concatenates [S4096x200x1, S4096x200x63] S4096x200x64 2
  slices_S4096x200x3_S4096x200x1_0_0_1 : S4096x200x3.Slices ![0, 0, 1] S4096x200x1
  shapeCasts_S4096x200x1_S4096x200 : S4096x200x1.ShapeCasts S4096x200
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  reducesTo_S4096x200x1_S4096x200_d2 : S4096x200x1.ReducesTo [2] S4096x200
  h_S_ : 0 < S_.numel
  bcast_S4096x200_S4096x200x64_0_1 : S4096x200.BroadcastsInDim S4096x200x64 (![0, 1] : Fin 2 → Fin S4096x200x64.rank)
  bcast_S_S4096x200x64 : S_.BroadcastsInDim S4096x200x64 (![] : Fin 0 → Fin S4096x200x64.rank)
  slices_S4096x200x3_S4096x200x1_0_0_2 : S4096x200x3.Slices ![0, 0, 2] S4096x200x1
  transposes_S64x1_S1x64_1_0 : S64x1.Transposes [1, 0] S1x64
  bcast_S64_S1x1x64_2 : S64.BroadcastsInDim S1x1x64 (![2] : Fin 1 → Fin S1x1x64.rank)
  bcast_S1x1x64_S4096x200x64_0_1_2 : S1x1x64.BroadcastsInDim S4096x200x64 (![0, 1, 2] : Fin 3 → Fin S4096x200x64.rank)
  bcast_S4096x200x1_S4096x200x64_0_1_2 : S4096x200x1.BroadcastsInDim S4096x200x64 (![0, 1, 2] : Fin 3 → Fin S4096x200x64.rank)
  bcast_S_S4096x200x63 : S_.BroadcastsInDim S4096x200x63 (![] : Fin 0 → Fin S4096x200x63.rank)
  dot_S4096x200x1_S1x1_S4096x200x1_2_0_01_1_n_n_wf : DotDims.WF S4096x200x1 S1x1 S4096x200x1 [2] [0] [0, 1] [1] [] []
  dot_S4096x200x1_S1x63_S4096x200x63_2_0_01_1_n_n_wf : DotDims.WF S4096x200x1 S1x63 S4096x200x63 [2] [0] [0, 1] [1] [] []
  gather_S128x64_S4096x200x1_S4096x200x64_2_0_n_n_0_2_164_wf : GatherDims.WF S128x64 S4096x200x1 S4096x200x64 [2] [0] [] [0] [] 2 ![1, 64]
  dot_S4096x200x1_S1x64_S4096x200x64_2_0_01_1_n_n_wf : DotDims.WF S4096x200x1 S1x64 S4096x200x64 [2] [0] [0, 1] [1] [] []

variable [Facts]

def dot_S4096x200x1_S1x1_S4096x200x1_2_0_01_1_n_n : DotDims S4096x200x1 S1x1 S4096x200x1 where
  lhsContracting := [2]
  rhsContracting := [0]
  lhsNonContracting := [0, 1]
  rhsNonContracting := [1]
  lhsBatch := []
  rhsBatch := []
  wf := dot_S4096x200x1_S1x1_S4096x200x1_2_0_01_1_n_n_wf
def dot_S4096x200x1_S1x63_S4096x200x63_2_0_01_1_n_n : DotDims S4096x200x1 S1x63 S4096x200x63 where
  lhsContracting := [2]
  rhsContracting := [0]
  lhsNonContracting := [0, 1]
  rhsNonContracting := [1]
  lhsBatch := []
  rhsBatch := []
  wf := dot_S4096x200x1_S1x63_S4096x200x63_2_0_01_1_n_n_wf
def gather_S128x64_S4096x200x1_S4096x200x64_2_0_n_n_0_2_164 : GatherDims S128x64 S4096x200x1 S4096x200x64 where
  offsetDims := [2]
  collapsedSliceDims := [0]
  operandBatchingDims := []
  startIndicesBatchingDims := []
  startIndexMap := [0]
  indexVectorDim := 2
  sliceSizes := ![1, 64]
  wf := gather_S128x64_S4096x200x1_S4096x200x64_2_0_n_n_0_2_164_wf
def dot_S4096x200x1_S1x64_S4096x200x64_2_0_01_1_n_n : DotDims S4096x200x1 S1x64 S4096x200x64 where
  lhsContracting := [2]
  rhsContracting := [0]
  lhsNonContracting := [0, 1]
  rhsNonContracting := [1]
  lhsBatch := []
  rhsBatch := []
  wf := dot_S4096x200x1_S1x64_S4096x200x64_2_0_01_1_n_n_wf
def fn_where {F : FTy → Type} [FloatOps F] (arg0 : IVec S4096x200 1) (arg1 : IVec S4096x200 32) (arg2 : IVec S4096x200 32) : IVec S4096x200 32 :=
  let v0 : IVec S4096x200 32 := select arg0 arg1 arg2
  v0

def fn_take {F : FTy → Type} [FloatOps F] (arg0 : FVec F S128x64 .f32) (arg1 : IVec S4096x200 32) : FVec F S4096x200x64 .f32 :=
  let c : IVec S_ 32 := constantI S_ 32 0#32
  let v0 : IVec S4096x200 32 := broadcastInDim S4096x200 ![] bcast_S_S4096x200 c
  let v1 : IVec S4096x200 1 := cmpi .slt arg1 v0
  let c_0 : IVec S_ 32 := constantI S_ 32 128#32
  let v2 : IVec S4096x200 32 := broadcastInDim S4096x200 ![] bcast_S_S4096x200 c_0
  let v3 : IVec S4096x200 32 := addi arg1 v2
  let v4 : IVec S4096x200 32 := fn_where (F := F) v1 v3 arg1
  let v5 : IVec S4096x200x1 32 := broadcastInDim S4096x200x1 ![0, 1] bcast_S4096x200_S4096x200x1_0_1 v4
  let c_1 : IVec S1 32 := constantI S1 32 127#32
  let c_2 : IVec S_ 32 := constantI S_ 32 0#32
  let v6 : IVec S4096x200x1 32 := broadcastInDim S4096x200x1 ![] bcast_S_S4096x200x1 c_2
  let v7 : IVec S4096x200x1 1 := cmpi .sge v5 v6
  let v8 : IVec S1x1x1 32 := broadcastInDim S1x1x1 ![2] bcast_S1_S1x1x1_2 c_1
  let v9 : IVec S4096x200x1 32 := broadcastInDim S4096x200x1 ![0, 1, 2] bcast_S1x1x1_S4096x200x1_0_1_2 v8
  let v10 : IVec S4096x200x1 1 := cmpi .sle v5 v9
  let v11 : IVec S4096x200x1 1 := andi v7 v10
  let c_3 : IVec S_ 1 := constantI S_ 1 1#1
  let v12 : IVec S4096x200 1 := (fun x v => Host.reduce IntOp.andi x v reducesTo_S4096x200x1_S4096x200_d2 h_S_) v11 c_3
  let v13 : FVec F S4096x200x64 .f32 := (fun x i => Host.gather gather_S128x64_S4096x200x1_S4096x200x64_2_0_n_n_0_2_164 x i) arg0 v5
  let v14 : IVec S4096x200x64 1 := broadcastInDim S4096x200x64 ![0, 1] bcast_S4096x200_S4096x200x64_0_1 v12
  let cst : FVec F S_ .f32 := constant S_ .f32 0x7FC00000#32
  let v15 : FVec F S4096x200x64 .f32 := broadcastInDim S4096x200x64 ![] bcast_S_S4096x200x64 cst
  let v16 : FVec F S4096x200x64 .f32 := select v14 v13 v15
  v16

def fn_part2 {F : FTy → Type} [FloatOps F] (main_arg1 : FVec F S4096x200x1 .f32) (main_arg9 : FVec F S4096x200x64 .f32) (main_v26 : FVec F S4096x200x64 .f32) (main_v43 : FVec F S4096x200x63 .f32) (main_cst_1 : FVec F S_ .f32) : IVec S4096x200x64 1 :=
  let main_v45 : FVec F S4096x200x1 .f32 := broadcastInDim S4096x200x1 ![] bcast_S_S4096x200x1 main_cst_1
  let main_v46 : FVec F S4096x200x64 .f32 := (fun a b => concatenate S4096x200x64 2 [⟨S4096x200x1, a⟩, ⟨S4096x200x63, b⟩] concatenates_S4096x200x1_S4096x200x63_S4096x200x64_d2) main_v45 main_v43
  let main_v47 : FVec F S4096x200x64 .f32 := subf main_arg9 main_v26
  let main_v48 : FVec F S4096x200x64 .f32 := Host.absf main_v47
  let main_v49 : FVec F S4096x200x1 .f32 := Host.absf main_arg1
  let main_v50 : FVec F S4096x200x64 .f32 := broadcastInDim S4096x200x64 ![0, 1, 2] bcast_S4096x200x1_S4096x200x64_0_1_2 main_v49
  let main_v51 : FVec F S4096x200x64 .f32 := mulf main_v46 main_v50
  let main_v52 : IVec S4096x200x64 1 := cmpf .ole main_v48 main_v51
  main_v52

def fn_part1 {F : FTy → Type} [FloatOps F] (main_arg0 : FVec F S4096x200x3 .f32) (main_arg1 : FVec F S4096x200x1 .f32) (main_arg2 : FVec F S63x1 .f32) (main_arg3 : FVec F S63 .f32) (main_arg9 : FVec F S4096x200x64 .f32) (main_v22 : FVec F S4096x200x64 .f32) (main_v23 : FVec F S4096x200x64 .f32) : IVec S4096x200x64 1 :=
  let main_v24 : FVec F S4096x200x64 .f32 := addf main_v23 main_v22
  let main_v25 : FVec F S4096x200x64 .f32 := broadcastInDim S4096x200x64 ![0, 1, 2] bcast_S4096x200x1_S4096x200x64_0_1_2 main_arg1
  let main_v26 : FVec F S4096x200x64 .f32 := mulf main_v24 main_v25
  let main_v27 : FVec F S4096x200x1 .f32 := (extractStridedSlice S4096x200x1 ![0, 0, 0] · slices_S4096x200x3_S4096x200x1_0_0_0) main_arg0
  let main_v28 : FVec F S1x63 .f32 := (transpose S1x63 [1, 0] · transposes_S63x1_S1x63_1_0) main_arg2
  let main_v29 : FVec F S4096x200x63 .f32 := (fun l r => Host.dotGeneral dot_S4096x200x1_S1x63_S4096x200x63_2_0_01_1_n_n none l r) main_v27 main_v28
  let main_v30 : FVec F S1x1x63 .f32 := broadcastInDim S1x1x63 ![2] bcast_S63_S1x1x63_2 main_arg3
  let main_v31 : FVec F S4096x200x63 .f32 := broadcastInDim S4096x200x63 ![0, 1, 2] bcast_S1x1x63_S4096x200x63_0_1_2 main_v30
  let main_v32 : FVec F S4096x200x63 .f32 := addf main_v29 main_v31
  let main_v33 : FVec F S4096x200x63 .f32 := Host.absf main_v32
  let main_v34 : FVec F S4096x200x63 .f32 := mulf main_v33 main_v33
  let main_v35 : FVec F S4096x200x63 .f32 := mulf main_v33 main_v34
  let main_v36 : FVec F S4096x200x63 .f32 := mulf main_v34 main_v34
  let main_v37 : FVec F S4096x200x63 .f32 := mulf main_v35 main_v36
  let main_v38 : FVec F S4096x200x63 .f32 := mulf main_v36 main_v36
  let main_v39 : FVec F S4096x200x63 .f32 := mulf main_v37 main_v38
  let main_cst : FVec F S_ .f32 := constant S_ .f32 0x4FB99466#32
  let main_v40 : FVec F S4096x200x63 .f32 := broadcastInDim S4096x200x63 ![] bcast_S_S4096x200x63 main_cst
  let main_v41 : FVec F S4096x200x63 .f32 := Host.divf main_v39 main_v40
  let main_cst_0 : FVec F S_ .f32 := constant S_ .f32 0x43520000#32
  let main_v42 : FVec F S4096x200x63 .f32 := broadcastInDim S4096x200x63 ![] bcast_S_S4096x200x63 main_cst_0
  let main_v43 : FVec F S4096x200x63 .f32 := Host.divf main_v41 main_v42
  let main_v44 : FVec F S4096x200x1 .f32 := (extractStridedSlice S4096x200x1 ![0, 0, 0] · slices_S4096x200x3_S4096x200x1_0_0_0) main_arg0
  let main_cst_1 : FVec F S_ .f32 := constant S_ .f32 0x00000000#32
  fn_part2 (F := F) main_arg1 main_arg9 main_v26 main_v43 main_cst_1

def fn {F : FTy → Type} [FloatOps F] (main_arg0 : FVec F S4096x200x3 .f32) (main_arg1 : FVec F S4096x200x1 .f32) (main_arg2 : FVec F S63x1 .f32) (main_arg3 : FVec F S63 .f32) (main_arg4 : FVec F S1x1 .f32) (main_arg5 : FVec F S1 .f32) (main_arg6 : FVec F S128x64 .f32) (main_arg7 : FVec F S64x1 .f32) (main_arg8 : FVec F S64 .f32) (main_arg9 : FVec F S4096x200x64 .f32) : IVec S4096x200x64 1 :=
  let main_v0 : FVec F S4096x200x1 .f32 := (extractStridedSlice S4096x200x1 ![0, 0, 0] · slices_S4096x200x3_S4096x200x1_0_0_0) main_arg0
  let main_v1 : FVec F S1x1 .f32 := (transpose S1x1 [1, 0] · transposes_S1x1_S1x1_1_0) main_arg4
  let main_v2 : FVec F S4096x200x1 .f32 := (fun l r => Host.dotGeneral dot_S4096x200x1_S1x1_S4096x200x1_2_0_01_1_n_n none l r) main_v0 main_v1
  let main_v3 : FVec F S1x1x1 .f32 := broadcastInDim S1x1x1 ![2] bcast_S1_S1x1x1_2 main_arg5
  let main_v4 : FVec F S4096x200x1 .f32 := broadcastInDim S4096x200x1 ![0, 1, 2] bcast_S1x1x1_S4096x200x1_0_1_2 main_v3
  let main_v5 : FVec F S4096x200x1 .f32 := addf main_v2 main_v4
  let main_v6 : FVec F S1x63 .f32 := (transpose S1x63 [1, 0] · transposes_S63x1_S1x63_1_0) main_arg2
  let main_v7 : FVec F S4096x200x63 .f32 := (fun l r => Host.dotGeneral dot_S4096x200x1_S1x63_S4096x200x63_2_0_01_1_n_n none l r) main_v0 main_v6
  let main_v8 : FVec F S1x1x63 .f32 := broadcastInDim S1x1x63 ![2] bcast_S63_S1x1x63_2 main_arg3
  let main_v9 : FVec F S4096x200x63 .f32 := broadcastInDim S4096x200x63 ![0, 1, 2] bcast_S1x1x63_S4096x200x63_0_1_2 main_v8
  let main_v10 : FVec F S4096x200x63 .f32 := addf main_v7 main_v9
  let main_v11 : FVec F S4096x200x63 .f32 := Host.sin main_v10
  let main_v12 : FVec F S4096x200x64 .f32 := (fun a b => concatenate S4096x200x64 2 [⟨S4096x200x1, a⟩, ⟨S4096x200x63, b⟩] concatenates_S4096x200x1_S4096x200x63_S4096x200x64_d2) main_v5 main_v11
  let main_v13 : FVec F S4096x200x1 .f32 := (extractStridedSlice S4096x200x1 ![0, 0, 1] · slices_S4096x200x3_S4096x200x1_0_0_1) main_arg0
  let main_v14 : FVec F S4096x200 .f32 := shapeCast S4096x200 main_v13 shapeCasts_S4096x200x1_S4096x200
  let main_v15 : IVec S4096x200 32 := fptosi 32 main_v14
  let main_v16 : FVec F S4096x200x64 .f32 := fn_take (F := F) main_arg6 main_v15
  let main_v17 : FVec F S4096x200x1 .f32 := (extractStridedSlice S4096x200x1 ![0, 0, 2] · slices_S4096x200x3_S4096x200x1_0_0_2) main_arg0
  let main_v18 : FVec F S1x64 .f32 := (transpose S1x64 [1, 0] · transposes_S64x1_S1x64_1_0) main_arg7
  let main_v19 : FVec F S4096x200x64 .f32 := (fun l r => Host.dotGeneral dot_S4096x200x1_S1x64_S4096x200x64_2_0_01_1_n_n none l r) main_v17 main_v18
  let main_v20 : FVec F S1x1x64 .f32 := broadcastInDim S1x1x64 ![2] bcast_S64_S1x1x64_2 main_arg8
  let main_v21 : FVec F S4096x200x64 .f32 := broadcastInDim S4096x200x64 ![0, 1, 2] bcast_S1x1x64_S4096x200x64_0_1_2 main_v20
  let main_v22 : FVec F S4096x200x64 .f32 := addf main_v19 main_v21
  let main_v23 : FVec F S4096x200x64 .f32 := addf main_v12 main_v16
  fn_part1 (F := F) main_arg0 main_arg1 main_arg2 main_arg3 main_arg9 main_v22 main_v23
-- ==== Pre_finite_ids.lean ====
abbrev S4096x200x3 : Shape := ⟨3, ![4096, 200, 3]⟩
abbrev S4096x200x1 : Shape := ⟨3, ![4096, 200, 1]⟩
abbrev S63x1 : Shape := ⟨2, ![63, 1]⟩
abbrev S63 : Shape := ⟨1, ![63]⟩
abbrev S1x1 : Shape := ⟨2, ![1, 1]⟩
abbrev S1 : Shape := ⟨1, ![1]⟩
abbrev S128x64 : Shape := ⟨2, ![128, 64]⟩
abbrev S64x1 : Shape := ⟨2, ![64, 1]⟩
abbrev S64 : Shape := ⟨1, ![64]⟩
abbrev S4096x200 : Shape := ⟨2, ![4096, 200]⟩
abbrev S_ : Shape := ⟨0, ![]⟩

class Facts : Prop where
  slices_S4096x200x3_S4096x200x1_0_0_1 : S4096x200x3.Slices ![0, 0, 1] S4096x200x1
  shapeCasts_S4096x200x1_S4096x200 : S4096x200x1.ShapeCasts S4096x200
  bcast_S_S4096x200x3 : S_.BroadcastsInDim S4096x200x3 (![] : Fin 0 → Fin S4096x200x3.rank)
  bcast_S_S4096x200x1 : S_.BroadcastsInDim S4096x200x1 (![] : Fin 0 → Fin S4096x200x1.rank)
  bcast_S_S1x1 : S_.BroadcastsInDim S1x1 (![] : Fin 0 → Fin S1x1.rank)
  bcast_S_S1 : S_.BroadcastsInDim S1 (![] : Fin 0 → Fin S1.rank)
  bcast_S_S128x64 : S_.BroadcastsInDim S128x64 (![] : Fin 0 → Fin S128x64.rank)
  bcast_S_S64x1 : S_.BroadcastsInDim S64x1 (![] : Fin 0 → Fin S64x1.rank)
  bcast_S_S64 : S_.BroadcastsInDim S64 (![] : Fin 0 → Fin S64.rank)
  bcast_S_S4096x200 : S_.BroadcastsInDim S4096x200 (![] : Fin 0 → Fin S4096x200.rank)

variable [Facts]

def fn_part1 {F : FTy → Type} [FloatOps F] (main_arg8 : FVec F S64 .f32) (main_v1 : FVec F S4096x200 .f32) (main_v4 : IVec S4096x200x3 1) (main_v7 : IVec S4096x200x1 1) (main_v10 : IVec S1x1 1) (main_v13 : IVec S1 1) (main_v16 : IVec S128x64 1) (main_v17 : FVec F S64x1 .f32) (main_cst_4 : FVec F S_ .f32) : IVec S4096x200 1 × IVec S4096x200x3 1 × IVec S4096x200x1 1 × IVec S1x1 1 × IVec S1 1 × IVec S128x64 1 × IVec S64x1 1 × IVec S64 1 :=
  let main_v18 : FVec F S64x1 .f32 := broadcastInDim S64x1 ![] bcast_S_S64x1 main_cst_4
  let main_v19 : IVec S64x1 1 := cmpf .olt main_v17 main_v18
  let main_v20 : FVec F S64 .f32 := Host.absf main_arg8
  let main_cst_5 : FVec F S_ .f32 := constant S_ .f32 0x7F800000#32
  let main_v21 : FVec F S64 .f32 := broadcastInDim S64 ![] bcast_S_S64 main_cst_5
  let main_v22 : IVec S64 1 := cmpf .olt main_v20 main_v21
  let main_v23 : FVec F S4096x200 .f32 := Host.floor main_v1
  let main_v24 : IVec S4096x200 1 := cmpf .oeq main_v1 main_v23
  let main_cst_6 : FVec F S_ .f32 := constant S_ .f32 0x00000000#32
  let main_v25 : FVec F S4096x200 .f32 := broadcastInDim S4096x200 ![] bcast_S_S4096x200 main_cst_6
  let main_v26 : IVec S4096x200 1 := cmpf .oge main_v1 main_v25
  let main_v27 : IVec S4096x200 1 := andi main_v24 main_v26
  let main_cst_7 : FVec F S_ .f32 := constant S_ .f32 0x42FE0000#32
  let main_v28 : FVec F S4096x200 .f32 := broadcastInDim S4096x200 ![] bcast_S_S4096x200 main_cst_7
  let main_v29 : IVec S4096x200 1 := cmpf .ole main_v1 main_v28
  let main_v30 : IVec S4096x200 1 := andi main_v27 main_v29
  (main_v30, main_v4, main_v7, main_v10, main_v13, main_v16, main_v19, main_v22)

def fn {F : FTy → Type} [FloatOps F] (main_arg0 : FVec F S4096x200x3 .f32) (main_arg1 : FVec F S4096x200x1 .f32) (main_arg2 : FVec F S63x1 .f32) (main_arg3 : FVec F S63 .f32) (main_arg4 : FVec F S1x1 .f32) (main_arg5 : FVec F S1 .f32) (main_arg6 : FVec F S128x64 .f32) (main_arg7 : FVec F S64x1 .f32) (main_arg8 : FVec F S64 .f32) : IVec S4096x200 1 × IVec S4096x200x3 1 × IVec S4096x200x1 1 × IVec S1x1 1 × IVec S1 1 × IVec S128x64 1 × IVec S64x1 1 × IVec S64 1 :=
  let main_v0 : FVec F S4096x200x1 .f32 := (extractStridedSlice S4096x200x1 ![0, 0, 1] · slices_S4096x200x3_S4096x200x1_0_0_1) main_arg0
  let main_v1 : FVec F S4096x200 .f32 := shapeCast S4096x200 main_v0 shapeCasts_S4096x200x1_S4096x200
  let main_v2 : FVec F S4096x200x3 .f32 := Host.absf main_arg0
  let main_cst : FVec F S_ .f32 := constant S_ .f32 0x7F800000#32
  let main_v3 : FVec F S4096x200x3 .f32 := broadcastInDim S4096x200x3 ![] bcast_S_S4096x200x3 main_cst
  let main_v4 : IVec S4096x200x3 1 := cmpf .olt main_v2 main_v3
  let main_v5 : FVec F S4096x200x1 .f32 := Host.absf main_arg1
  let main_cst_0 : FVec F S_ .f32 := constant S_ .f32 0x7F800000#32
  let main_v6 : FVec F S4096x200x1 .f32 := broadcastInDim S4096x200x1 ![] bcast_S_S4096x200x1 main_cst_0
  let main_v7 : IVec S4096x200x1 1 := cmpf .olt main_v5 main_v6
  let main_v8 : FVec F S1x1 .f32 := Host.absf main_arg4
  let main_cst_1 : FVec F S_ .f32 := constant S_ .f32 0x7F800000#32
  let main_v9 : FVec F S1x1 .f32 := broadcastInDim S1x1 ![] bcast_S_S1x1 main_cst_1
  let main_v10 : IVec S1x1 1 := cmpf .olt main_v8 main_v9
  let main_v11 : FVec F S1 .f32 := Host.absf main_arg5
  let main_cst_2 : FVec F S_ .f32 := constant S_ .f32 0x7F800000#32
  let main_v12 : FVec F S1 .f32 := broadcastInDim S1 ![] bcast_S_S1 main_cst_2
  let main_v13 : IVec S1 1 := cmpf .olt main_v11 main_v12
  let main_v14 : FVec F S128x64 .f32 := Host.absf main_arg6
  let main_cst_3 : FVec F S_ .f32 := constant S_ .f32 0x7F800000#32
  let main_v15 : FVec F S128x64 .f32 := broadcastInDim S128x64 ![] bcast_S_S128x64 main_cst_3
  let main_v16 : IVec S128x64 1 := cmpf .olt main_v14 main_v15
  let main_v17 : FVec F S64x1 .f32 := Host.absf main_arg7
  let main_cst_4 : FVec F S_ .f32 := constant S_ .f32 0x7F800000#32
  fn_part1 (F := F) main_arg8 main_v1 main_v4 main_v7 main_v10 main_v13 main_v16 main_v17 main_cst_4
-- ==== Pre_ids.lean ====
abbrev S4096x200x3 : Shape := ⟨3, ![4096, 200, 3]⟩
abbrev S4096x200x1 : Shape := ⟨3, ![4096, 200, 1]⟩
abbrev S63x1 : Shape := ⟨2, ![63, 1]⟩
abbrev S63 : Shape := ⟨1, ![63]⟩
abbrev S1x1 : Shape := ⟨2, ![1, 1]⟩
abbrev S1 : Shape := ⟨1, ![1]⟩
abbrev S128x64 : Shape := ⟨2, ![128, 64]⟩
abbrev S64x1 : Shape := ⟨2, ![64, 1]⟩
abbrev S64 : Shape := ⟨1, ![64]⟩
abbrev S4096x200 : Shape := ⟨2, ![4096, 200]⟩
abbrev S_ : Shape := ⟨0, ![]⟩

class Facts : Prop where
  slices_S4096x200x3_S4096x200x1_0_0_1 : S4096x200x3.Slices ![0, 0, 1] S4096x200x1
  shapeCasts_S4096x200x1_S4096x200 : S4096x200x1.ShapeCasts S4096x200
  bcast_S_S4096x200 : S_.BroadcastsInDim S4096x200 (![] : Fin 0 → Fin S4096x200.rank)

variable [Facts]

def fn {F : FTy → Type} [FloatOps F] (main_arg0 : FVec F S4096x200x3 .f32) (main_arg1 : FVec F S4096x200x1 .f32) (main_arg2 : FVec F S63x1 .f32) (main_arg3 : FVec F S63 .f32) (main_arg4 : FVec F S1x1 .f32) (main_arg5 : FVec F S1 .f32) (main_arg6 : FVec F S128x64 .f32) (main_arg7 : FVec F S64x1 .f32) (main_arg8 : FVec F S64 .f32) : IVec S4096x200 1 :=
  let main_v0 : FVec F S4096x200x1 .f32 := (extractStridedSlice S4096x200x1 ![0, 0, 1] · slices_S4096x200x3_S4096x200x1_0_0_1) main_arg0
  let main_v1 : FVec F S4096x200 .f32 := shapeCast S4096x200 main_v0 shapeCasts_S4096x200x1_S4096x200
  let main_v2 : FVec F S4096x200 .f32 := Host.floor main_v1
  let main_v3 : IVec S4096x200 1 := cmpf .oeq main_v1 main_v2
  let main_cst : FVec F S_ .f32 := constant S_ .f32 0x00000000#32
  let main_v4 : FVec F S4096x200 .f32 := broadcastInDim S4096x200 ![] bcast_S_S4096x200 main_cst
  let main_v5 : IVec S4096x200 1 := cmpf .oge main_v1 main_v4
  let main_v6 : IVec S4096x200 1 := andi main_v3 main_v5
  let main_cst_0 : FVec F S_ .f32 := constant S_ .f32 0x42FE0000#32
  let main_v7 : FVec F S4096x200 .f32 := broadcastInDim S4096x200 ![] bcast_S_S4096x200 main_cst_0
  let main_v8 : IVec S4096x200 1 := cmpf .ole main_v1 main_v7
  let main_v9 : IVec S4096x200 1 := andi main_v6 main_v8
  main_v9
-- ==== Kernel.lean ====
abbrev S4096x200x3 : Shape := ⟨3, ![4096, 200, 3]⟩
abbrev S4096x200x1 : Shape := ⟨3, ![4096, 200, 1]⟩
abbrev S63x1 : Shape := ⟨2, ![63, 1]⟩
abbrev S63 : Shape := ⟨1, ![63]⟩
abbrev S1x1 : Shape := ⟨2, ![1, 1]⟩
abbrev S1 : Shape := ⟨1, ![1]⟩
abbrev S128x64 : Shape := ⟨2, ![128, 64]⟩
abbrev S64x1 : Shape := ⟨2, ![64, 1]⟩
abbrev S64 : Shape := ⟨1, ![64]⟩
abbrev S4096x200 : Shape := ⟨2, ![4096, 200]⟩
abbrev S16x16x3200 : Shape := ⟨3, ![16, 16, 3200]⟩
abbrev S1x16x16x3200 : Shape := ⟨4, ![1, 16, 16, 3200]⟩
abbrev S4x16x16x3200 : Shape := ⟨4, ![4, 16, 16, 3200]⟩
abbrev S_ : Shape := ⟨0, ![]⟩
abbrev S128 : Shape := ⟨1, ![128]⟩
abbrev S128x1 : Shape := ⟨2, ![128, 1]⟩
abbrev S64x128 : Shape := ⟨2, ![64, 128]⟩
abbrev S64x64 : Shape := ⟨2, ![64, 64]⟩
abbrev S4096x200x64 : Shape := ⟨3, ![4096, 200, 64]⟩
abbrev S4x1x16x3200 : Shape := ⟨4, ![4, 1, 16, 3200]⟩
abbrev S256x200x64 : Shape := ⟨3, ![256, 200, 64]⟩
abbrev S1x1x1x3200 : Shape := ⟨4, ![1, 1, 1, 3200]⟩
abbrev S1x3200 : Shape := ⟨2, ![1, 3200]⟩
abbrev S64x3200 : Shape := ⟨2, ![64, 3200]⟩
abbrev S128x3200 : Shape := ⟨2, ![128, 3200]⟩
abbrev S3200x64 : Shape := ⟨2, ![3200, 64]⟩
abbrev S16x200x64 : Shape := ⟨3, ![16, 200, 64]⟩

abbrev nBuf : Space → Nat
  | .hbm => 49
  | .vmem => 12
  | .smem => 0
  | _ => 0

abbrev bufTy : (tb : Table) → Fin (tcTables nBuf tb) → BufTy
  | .hbm, ⟨0, _⟩ => ⟨S4096x200x3, .f32⟩
  | .hbm, ⟨1, _⟩ => ⟨S4096x200x1, .f32⟩
  | .hbm, ⟨2, _⟩ => ⟨S63x1, .f32⟩
  | .hbm, ⟨3, _⟩ => ⟨S63, .f32⟩
  | .hbm, ⟨4, _⟩ => ⟨S1x1, .f32⟩
  | .hbm, ⟨5, _⟩ => ⟨S1, .f32⟩
  | .hbm, ⟨6, _⟩ => ⟨S128x64, .f32⟩
  | .hbm, ⟨7, _⟩ => ⟨S64x1, .f32⟩
  | .hbm, ⟨8, _⟩ => ⟨S64, .f32⟩
  | .hbm, ⟨9, _⟩ => ⟨S4096x200x1, .f32⟩
  | .hbm, ⟨10, _⟩ => ⟨S4096x200, .f32⟩
  | .hbm, ⟨11, _⟩ => ⟨S16x16x3200, .f32⟩
  | .hbm, ⟨12, _⟩ => ⟨S4096x200x1, .f32⟩
  | .hbm, ⟨13, _⟩ => ⟨S4096x200, .f32⟩
  | .hbm, ⟨14, _⟩ => ⟨S16x16x3200, .f32⟩
  | .hbm, ⟨15, _⟩ => ⟨S4096x200x1, .f32⟩
  | .hbm, ⟨16, _⟩ => ⟨S4096x200, .f32⟩
  | .hbm, ⟨17, _⟩ => ⟨S16x16x3200, .f32⟩
  | .hbm, ⟨18, _⟩ => ⟨S4096x200, .f32⟩
  | .hbm, ⟨19, _⟩ => ⟨S16x16x3200, .f32⟩
  | .hbm, ⟨20, _⟩ => ⟨S1x16x16x3200, .f32⟩
  | .hbm, ⟨21, _⟩ => ⟨S1x16x16x3200, .f32⟩
  | .hbm, ⟨22, _⟩ => ⟨S1x16x16x3200, .f32⟩
  | .hbm, ⟨23, _⟩ => ⟨S1x16x16x3200, .f32⟩
  | .hbm, ⟨24, _⟩ => ⟨S4x16x16x3200, .f32⟩
  | .hbm, ⟨25, _⟩ => ⟨S1, .f32⟩
  | .hbm, ⟨26, _⟩ => ⟨S63, .f32⟩
  | .hbm, ⟨27, _⟩ => ⟨S64, .f32⟩
  | .hbm, ⟨28, _⟩ => ⟨S64x1, .f32⟩
  | .hbm, ⟨29, _⟩ => ⟨S64, .f32⟩
  | .hbm, ⟨30, _⟩ => ⟨S64x1, .f32⟩
  | .hbm, ⟨31, _⟩ => ⟨S64x1, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .i1⟩
  | .hbm, ⟨36, _⟩ => ⟨S64, .f32⟩
  | .hbm, ⟨37, _⟩ => ⟨S64x1, .f32⟩
  | .hbm, ⟨38, _⟩ => ⟨S128, .f32⟩
  | .hbm, ⟨39, _⟩ => ⟨S128x1, .f32⟩
  | .hbm, ⟨40, _⟩ => ⟨S64x128, .f32⟩
  | .hbm, ⟨41, _⟩ => ⟨S64x64, .i32⟩
  | .hbm, ⟨42, _⟩ => ⟨S64x64, .i32⟩
  | .hbm, ⟨43, _⟩ => ⟨S_, .i32⟩
  | .hbm, ⟨44, _⟩ => ⟨S64x64, .i32⟩
  | .hbm, ⟨45, _⟩ => ⟨S64x64, .i32⟩
  | .hbm, ⟨46, _⟩ => ⟨S64x64, .i1⟩
  | .hbm, ⟨47, _⟩ => ⟨S64x64, .f32⟩
  | .hbm, ⟨48, _⟩ => ⟨S4096x200x64, .f32⟩
  | .local _ .vmem, ⟨0, _⟩ => ⟨S4x1x16x3200, .f32⟩
  | .local _ .vmem, ⟨1, _⟩ => ⟨S4x1x16x3200, .f32⟩
  | .local _ .vmem, ⟨2, _⟩ => ⟨S64x1, .f32⟩
  | .local _ .vmem, ⟨3, _⟩ => ⟨S64x1, .f32⟩
  | .local _ .vmem, ⟨4, _⟩ => ⟨S64x1, .f32⟩
  | .local _ .vmem, ⟨5, _⟩ => ⟨S64x1, .f32⟩
  | .local _ .vmem, ⟨6, _⟩ => ⟨S64x1, .f32⟩
  | .local _ .vmem, ⟨7, _⟩ => ⟨S128x1, .f32⟩
  | .local _ .vmem, ⟨8, _⟩ => ⟨S64x128, .f32⟩
  | .local _ .vmem, ⟨9, _⟩ => ⟨S64x64, .f32⟩
  | .local _ .vmem, ⟨10, _⟩ => ⟨S256x200x64, .f32⟩
  | .local _ .vmem, ⟨11, _⟩ => ⟨S256x200x64, .f32⟩
  | _, _ => ⟨S4096x200x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x16x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x200x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "horner11" => some ((1 / 39916800 : ℝ) : EReal)
  | "horner13" => some ((-1 / 6227020800 : ℝ) : EReal)
  | "horner3" => some ((1 / 6 : ℝ) : EReal)
  | "horner5" => some ((-1 / 120 : ℝ) : EReal)
  | "horner7" => some ((1 / 5040 : ℝ) : EReal)
  | "horner9" => some ((-1 / 362880 : ℝ) : EReal)
  | _ => none
-- ==== ReferenceIdeal.lean ====
abbrev S4096x200x3 : Shape := ⟨3, ![4096, 200, 3]⟩
abbrev S4096x200x1 : Shape := ⟨3, ![4096, 200, 1]⟩
abbrev S63x1 : Shape := ⟨2, ![63, 1]⟩
abbrev S63 : Shape := ⟨1, ![63]⟩
abbrev S1x1 : Shape := ⟨2, ![1, 1]⟩
abbrev S1 : Shape := ⟨1, ![1]⟩
abbrev S128x64 : Shape := ⟨2, ![128, 64]⟩
abbrev S64x1 : Shape := ⟨2, ![64, 1]⟩
abbrev S64 : Shape := ⟨1, ![64]⟩
abbrev S1x1x1 : Shape := ⟨3, ![1, 1, 1]⟩
abbrev S1x63 : Shape := ⟨2, ![1, 63]⟩
abbrev S4096x200x63 : Shape := ⟨3, ![4096, 200, 63]⟩
abbrev S1x1x63 : Shape := ⟨3, ![1, 1, 63]⟩
abbrev S_ : Shape := ⟨0, ![]⟩
abbrev S4096x200x64 : Shape := ⟨3, ![4096, 200, 64]⟩
abbrev S4096x200 : Shape := ⟨2, ![4096, 200]⟩
abbrev S1x64 : Shape := ⟨2, ![1, 64]⟩
abbrev S1x1x64 : Shape := ⟨3, ![1, 1, 64]⟩

abbrev nBuf : Space → Nat
  | .hbm => 143
  | .vmem => 0
  | .smem => 0
  | _ => 0

abbrev hbmTy0_0 (i : Nat) : BufTy := match i % 128 with
  | 0 => ⟨S4096x200x3, .f32⟩
  | 1 => ⟨S4096x200x1, .f32⟩
  | 2 => ⟨S63x1, .f32⟩
  | 3 => ⟨S63, .f32⟩
  | 4 => ⟨S1x1, .f32⟩
  | 5 => ⟨S1, .f32⟩
  | 6 => ⟨S128x64, .f32⟩
  | 7 => ⟨S64x1, .f32⟩
  | 8 => ⟨S64, .f32⟩
  | 9 => ⟨S4096x200x1, .f32⟩
  | 10 => ⟨S1x1, .f32⟩
  | 11 => ⟨S4096x200x1, .f32⟩
  | 12 => ⟨S1x1x1, .f32⟩
  | 13 => ⟨S4096x200x1, .f32⟩
  | 14 => ⟨S4096x200x1, .f32⟩
  | 15 => ⟨S1x63, .f32⟩
  | 16 => ⟨S4096x200x63, .f32⟩
  | 17 => ⟨S1x1x63, .f32⟩
  | 18 => ⟨S4096x200x63, .f32⟩
  | 19 => ⟨S4096x200x63, .f32⟩
  | 20 => ⟨S_, .f32⟩
  | 21 => ⟨S4096x200x63, .f32⟩
  | 22 => ⟨S4096x200x63, .f32⟩
  | 23 => ⟨S_, .f32⟩
  | 24 => ⟨S_, .f32⟩
  | 25 => ⟨S_, .f32⟩
  | 26 => ⟨S4096x200x63, .f32⟩
  | 27 => ⟨S4096x200x63, .f32⟩
  | 28 => ⟨S4096x200x63, .f32⟩
  | 29 => ⟨S_, .f32⟩
  | 30 => ⟨S_, .f32⟩
  | 31 => ⟨S_, .f32⟩
  | 32 => ⟨S4096x200x63, .f32⟩
  | 33 => ⟨S4096x200x63, .f32⟩
  | 34 => ⟨S4096x200x63, .f32⟩
  | 35 => ⟨S_, .f32⟩
  | 36 => ⟨S_, .f32⟩
  | 37 => ⟨S_, .f32⟩
  | 38 => ⟨S4096x200x63, .f32⟩
  | 39 => ⟨S4096x200x63, .f32⟩
  | 40 => ⟨S4096x200x63, .f32⟩
  | 41 => ⟨S_, .f32⟩
  | 42 => ⟨S_, .f32⟩
  | 43 => ⟨S_, .f32⟩
  | 44 => ⟨S4096x200x63, .f32⟩
  | 45 => ⟨S4096x200x63, .f32⟩
  | 46 => ⟨S4096x200x63, .f32⟩
  | 47 => ⟨S_, .f32⟩
  | 48 => ⟨S_, .f32⟩
  | 49 => ⟨S_, .f32⟩
  | 50 => ⟨S4096x200x63, .f32⟩
  | 51 => ⟨S4096x200x63, .f32⟩
  | 52 => ⟨S4096x200x63, .f32⟩
  | 53 => ⟨S_, .f32⟩
  | 54 => ⟨S_, .f32⟩
  | 55 => ⟨S_, .f32⟩
  | 56 => ⟨S4096x200x63, .f32⟩
  | 57 => ⟨S4096x200x63, .f32⟩
  | 58 => ⟨S4096x200x63, .f32⟩
  | 59 => ⟨S_, .f32⟩
  | 60 => ⟨S_, .f32⟩
  | 61 => ⟨S_, .f32⟩
  | 62 => ⟨S4096x200x63, .f32⟩
  | 63 => ⟨S4096x200x63, .f32⟩
  | 64 => ⟨S4096x200x63, .f32⟩
  | 65 => ⟨S_, .f32⟩
  | 66 => ⟨S_, .f32⟩
  | 67 => ⟨S_, .f32⟩
  | 68 => ⟨S4096x200x63, .f32⟩
  | 69 => ⟨S4096x200x63, .f32⟩
  | 70 => ⟨S4096x200x63, .f32⟩
  | 71 => ⟨S_, .f32⟩
  | 72 => ⟨S_, .f32⟩
  | 73 => ⟨S_, .f32⟩
  | 74 => ⟨S4096x200x63, .f32⟩
  | 75 => ⟨S4096x200x63, .f32⟩
  | 76 => ⟨S4096x200x63, .f32⟩
  | 77 => ⟨S_, .f32⟩
  | 78 => ⟨S_, .f32⟩
  | 79 => ⟨S_, .f32⟩
  | 80 => ⟨S4096x200x63, .f32⟩
  | 81 => ⟨S4096x200x63, .f32⟩
  | 82 => ⟨S4096x200x63, .f32⟩
  | 83 => ⟨S_, .f32⟩
  | 84 => ⟨S_, .f32⟩
  | 85 => ⟨S_, .f32⟩
  | 86 => ⟨S4096x200x63, .f32⟩
  | 87 => ⟨S4096x200x63, .f32⟩
  | 88 => ⟨S4096x200x63, .f32⟩
  | 89 => ⟨S_, .f32⟩
  | 90 => ⟨S_, .f32⟩
  | 91 => ⟨S_, .f32⟩
  | 92 => ⟨S4096x200x63, .f32⟩
  | 93 => ⟨S4096x200x63, .f32⟩
  | 94 => ⟨S4096x200x63, .f32⟩
  | 95 => ⟨S_, .f32⟩
  | 96 => ⟨S_, .f32⟩
  | 97 => ⟨S_, .f32⟩
  | 98 => ⟨S4096x200x63, .f32⟩
  | 99 => ⟨S4096x200x63, .f32⟩
  | 100 => ⟨S4096x200x63, .f32⟩
  | 101 => ⟨S_, .f32⟩
  | 102 => ⟨S_, .f32⟩
  | 103 => ⟨S_, .f32⟩
  | 104 => ⟨S4096x200x63, .f32⟩
  | 105 => ⟨S4096x200x63, .f32⟩
  | 106 => ⟨S4096x200x64, .f32⟩
  | 107 => ⟨S4096x200x1, .f32⟩
  | 108 => ⟨S4096x200, .f32⟩
  | 109 => ⟨S4096x200, .i32⟩
  | 110 => ⟨S_, .i32⟩
  | 111 => ⟨S4096x200, .i32⟩
  | 112 => ⟨S4096x200, .i1⟩
  | 113 => ⟨S_, .i32⟩
  | 114 => ⟨S4096x200, .i32⟩
  | 115 => ⟨S4096x200, .i32⟩
  | 116 => ⟨S4096x200, .i32⟩
  | 117 => ⟨S4096x200x1, .i32⟩
  | 118 => ⟨S1, .i32⟩
  | 119 => ⟨S_, .i32⟩
  | 120 => ⟨S4096x200x1, .i32⟩
  | 121 => ⟨S4096x200x1, .i1⟩
  | 122 => ⟨S1x1x1, .i32⟩
  | 123 => ⟨S4096x200x1, .i32⟩
  | 124 => ⟨S4096x200x1, .i1⟩
  | 125 => ⟨S4096x200x1, .i1⟩
  | 126 => ⟨S_, .i1⟩
  | 127 => ⟨S4096x200, .i1⟩
  | _ => ⟨S4096x200x3, .f32⟩

abbrev hbmTy0_1 (i : Nat) : BufTy := match i % 128 with
  | 0 => ⟨S4096x200x64, .f32⟩
  | 1 => ⟨S4096x200x64, .i1⟩
  | 2 => ⟨S_, .f32⟩
  | 3 => ⟨S4096x200x64, .f32⟩
  | 4 => ⟨S4096x200x64, .f32⟩
  | 5 => ⟨S4096x200x1, .f32⟩
  | 6 => ⟨S1x64, .f32⟩
  | 7 => ⟨S4096x200x64, .f32⟩
  | 8 => ⟨S1x1x64, .f32⟩
  | 9 => ⟨S4096x200x64, .f32⟩
  | 10 => ⟨S4096x200x64, .f32⟩
  | 11 => ⟨S4096x200x64, .f32⟩
  | 12 => ⟨S4096x200x64, .f32⟩
  | 13 => ⟨S4096x200x64, .f32⟩
  | 14 => ⟨S4096x200x64, .f32⟩
  | _ => ⟨S4096x200x3, .f32⟩

abbrev hbmTy (i : Nat) : BufTy := match i / 128 with
  | 0 => hbmTy0_0 i
  | 1 => hbmTy0_1 i
  | _ => ⟨S4096x200x3, .f32⟩

abbrev bufTy : (tb : Table) → Fin (tcTables nBuf tb) → BufTy
  | .hbm, ⟨i, _⟩ => hbmTy i
  | _, _ => ⟨S4096x200x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_cst_11 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_12 : Ref sig .tc := ⟨.hbm, 59, rfl⟩
abbrev main_cst_13 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_14 : Ref sig .tc := ⟨.hbm, 65, rfl⟩
abbrev main_cst_15 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_16 : Ref sig .tc := ⟨.hbm, 71, rfl⟩
abbrev main_cst_17 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_18 : Ref sig .tc := ⟨.hbm, 77, rfl⟩
abbrev main_cst_19 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_20 : Ref sig .tc := ⟨.hbm, 83, rfl⟩
abbrev main_cst_21 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_22 : Ref sig .tc := ⟨.hbm, 89, rfl⟩
abbrev main_cst_23 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_24 : Ref sig .tc := ⟨.hbm, 95, rfl⟩
abbrev main_cst_25 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_26 : Ref sig .tc := ⟨.hbm, 101, rfl⟩
abbrev main_cst_27 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_call0_c : Ref sig .tc := ⟨.hbm, 110, rfl⟩
abbrev main_call0_v0 : Ref sig .tc := ⟨.hbm, 111, rfl⟩
abbrev main_call0_v1 : Ref sig .tc := ⟨.hbm, 112, rfl⟩
abbrev main_call0_c_0 : Ref sig .tc := ⟨.hbm, 113, rfl⟩
abbrev main_call0_v2 : Ref sig .tc := ⟨.hbm, 114, rfl⟩
abbrev main_call0_v3 : Ref sig .tc := ⟨.hbm, 115, rfl⟩
abbrev main_call0_v4 : Ref sig .tc := ⟨.hbm, 116, rfl⟩
abbrev main_call0_v5 : Ref sig .tc := ⟨.hbm, 117, rfl⟩
abbrev main_call0_c_1 : Ref sig .tc := ⟨.hbm, 118, rfl⟩
abbrev main_call0_c_2 : Ref sig .tc := ⟨.hbm, 119, rfl⟩
abbrev main_call0_v6 : Ref sig .tc := ⟨.hbm, 120, rfl⟩
abbrev main_call0_v7 : Ref sig .tc := ⟨.hbm, 121, rfl⟩
abbrev main_call0_v8 : Ref sig .tc := ⟨.hbm, 122, rfl⟩
abbrev main_call0_v9 : Ref sig .tc := ⟨.hbm, 123, rfl⟩
abbrev main_call0_v10 : Ref sig .tc := ⟨.hbm, 124, rfl⟩
abbrev main_call0_v11 : Ref sig .tc := ⟨.hbm, 125, rfl⟩
abbrev main_call0_c_3 : Ref sig .tc := ⟨.hbm, 126, rfl⟩
abbrev main_call0_v12 : Ref sig .tc := ⟨.hbm, 127, rfl⟩
abbrev main_call0_v13 : Ref sig .tc := ⟨.hbm, 128, rfl⟩
abbrev main_call0_v14 : Ref sig .tc := ⟨.hbm, 129, rfl⟩
abbrev main_call0_cst : Ref sig .tc := ⟨.hbm, 130, rfl⟩
abbrev main_call0_v15 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩

abbrev nD : Nat := 1
abbrev τ : Topo := Topo.v7x

variable {F : FTy → Type} [FloatOps F]
-- ==== Proof.Consts.lean ====
/- The constants that the two programs and the predicates spell, as the extended reals they stand for: the six named
   coefficients of the kernel's Horner scheme, the factorials of the reference, and the bounds of the predicates. -/
module

public import proofs.«01_k».proof.KernelIdeal
public import Idealize.ShloMosaic.PureOps.IdealRules

@[expose] public section

noncomputable section

namespace Cert.Consts

open Idealize.ShloMosaic

/-- The named coefficient of the 13th power is `-1/13!`. -/
theorem horner13 : Named.named (F := Ideal) Cert.KernelIdeal.κ "horner13" (φ := .f32) 0xAF309231#32 = ((-1 / 6227020800 : ℝ) : EReal) :=
  IdealRules.named_const.ideal_named_scalar _ _ _ _ rfl
/-- The named coefficient of the 11th power is `1/11!`. -/
theorem horner11 : Named.named (F := Ideal) Cert.KernelIdeal.κ "horner11" (φ := .f32) 0x32D7322B#32 = ((1 / 39916800 : ℝ) : EReal) :=
  IdealRules.named_const.ideal_named_scalar _ _ _ _ rfl
/-- The named coefficient of the 9th power is `-1/9!`. -/
theorem horner9 : Named.named (F := Ideal) Cert.KernelIdeal.κ "horner9" (φ := .f32) 0xB638EF1D#32 = ((-1 / 362880 : ℝ) : EReal) :=
  IdealRules.named_const.ideal_named_scalar _ _ _ _ rfl
/-- The named coefficient of the 7th power is `1/7!`. -/
theorem horner7 : Named.named (F := Ideal) Cert.KernelIdeal.κ "horner7" (φ := .f32) 0x39500D01#32 = ((1 / 5040 : ℝ) : EReal) :=
  IdealRules.named_const.ideal_named_scalar _ _ _ _ rfl
/-- The named coefficient of the 5th power is `-1/5!`. -/
theorem horner5 : Named.named (F := Ideal) Cert.KernelIdeal.κ "horner5" (φ := .f32) 0xBC088889#32 = ((-1 / 120 : ℝ) : EReal) :=
  IdealRules.named_const.ideal_named_scalar _ _ _ _ rfl
/-- The named coefficient of the cube is `1/3!`. -/
theorem horner3 : Named.named (F := Ideal) Cert.KernelIdeal.κ "horner3" (φ := .f32) 0x3E2AAAAB#32 = ((1 / 6 : ℝ) : EReal) :=
  IdealRules.named_const.ideal_named_scalar _ _ _ _ rfl

/-- `13!`. -/
theorem fact13 : Ideal.ofBits .f32 0x4FB99466#32 = ((6227020800 : ℝ) : EReal) := by
  simp [Ideal.ofBits, Ideal.ieee, -EReal.coe_mul]; norm_num
/-- `12!`. -/
theorem fact12 : Ideal.ofBits .f32 0x4DE467E0#32 = ((479001600 : ℝ) : EReal) := by
  simp [Ideal.ofBits, Ideal.ieee, -EReal.coe_mul]; norm_num
/-- `11!`. -/
theorem fact11 : Ideal.ofBits .f32 0x4C184540#32 = ((39916800 : ℝ) : EReal) := by
  simp [Ideal.ofBits, Ideal.ieee, -EReal.coe_mul]; norm_num
/-- `10!`. -/
theorem fact10 : Ideal.ofBits .f32 0x4A5D7C00#32 = ((3628800 : ℝ) : EReal) := by
  simp [Ideal.ofBits, Ideal.ieee, -EReal.coe_mul]; norm_num
/-- `9!`. -/
theorem fact9 : Ideal.ofBits .f32 0x48B13000#32 = ((362880 : ℝ) : EReal) := by
  simp [Ideal.ofBits, Ideal.ieee, -EReal.coe_mul]; norm_num
/-- `8!`. -/
theorem fact8 : Ideal.ofBits .f32 0x471D8000#32 = ((40320 : ℝ) : EReal) := by
  simp [Ideal.ofBits, Ideal.ieee, -EReal.coe_mul]; norm_num
/-- `7!`. -/
theorem fact7 : Ideal.ofBits .f32 0x459D8000#32 = ((5040 : ℝ) : EReal) := by
  simp [Ideal.ofBits, Ideal.ieee, -EReal.coe_mul]; norm_num
/-- `6!`. -/
theorem fact6 : Ideal.ofBits .f32 0x44340000#32 = ((720 : ℝ) : EReal) := by
  simp [Ideal.ofBits, Ideal.ieee, -EReal.coe_mul]; norm_num
/-- `5!`. -/
theorem fact5 : Ideal.ofBits .f32 0x42F00000#32 = ((120 : ℝ) : EReal) := by
  simp [Ideal.ofBits, Ideal.ieee, -EReal.coe_mul]; norm_num
/-- `4!`. -/
theorem fact4 : Ideal.ofBits .f32 0x41C00000#32 = ((24 : ℝ) : EReal) := by
  simp [Ideal.ofBits, Ideal.ieee, -EReal.coe_mul]; norm_num
/-- `3!`. -/
theorem fact3 : Ideal.ofBits .f32 0x40C00000#32 = ((6 : ℝ) : EReal) := by
  simp [Ideal.ofBits, Ideal.ieee, -EReal.coe_mul]; norm_num
/-- `2!`. -/
theorem fact2 : Ideal.ofBits .f32 0x40000000#32 = ((2 : ℝ) : EReal) := by
  simp [Ideal.ofBits, Ideal.ieee, -EReal.coe_mul]; norm_num
/-- One. -/
theorem one : Ideal.ofBits .f32 0x3F800000#32 = ((1 : ℝ) : EReal) := by
  simp [Ideal.ofBits, Ideal.ieee, -EReal.coe_mul]; norm_num
/-- Minus one. -/
theorem negOne : Ideal.ofBits .f32 0xBF800000#32 = ((-1 : ℝ) : EReal) := by
  simp [Ideal.ofBits, Ideal.ieee, -EReal.coe_mul]; norm_num
/-- `14 * 15`, which takes `13!` to `15!`. -/
theorem c210 : Ideal.ofBits .f32 0x43520000#32 = ((210 : ℝ) : EReal) := by
  simp [Ideal.ofBits, Ideal.ieee, -EReal.coe_mul]; norm_num
/-- The last row of the table. -/
theorem c127 : Ideal.ofBits .f32 0x42FE0000#32 = ((127 : ℝ) : EReal) := by
  simp [Ideal.ofBits, Ideal.ieee, -EReal.coe_mul]; norm_num
/-- The bound of the finiteness tests is plus infinity. -/
theorem infinity : Ideal.ofBits .f32 0x7F800000#32 = (⊤ : EReal) := by
  simp [Ideal.ofBits, Ideal.ieee]

end Cert.Consts

end
-- ==== Proof.Taylor.lean ====
/- The Taylor polynomial of degree 13 of the sine, twice: as the kernel evaluates it (Horner's rule in the square of the
   argument, the square multiplied by 0 on the linear channel) and as the reference evaluates it (Horner's rule in the
   argument itself). The two agree at every extended real. -/
module

public import proofs.«01_k».proof.Proof.Consts

@[expose] public section

noncomputable section

namespace Cert.Taylor

open Idealize.ShloMosaic

/-- The kernel's embedding of the argument `t`, with `n` the flag that is 0 on the linear channel and 1 elsewhere. -/
def waveOf (n t : EReal) : EReal :=
  t - t * (t * t * n) *
    (((((Named.named (F := Ideal) Cert.KernelIdeal.κ "horner13" (φ := .f32) 0xAF309231#32 * (t * t * n)
      + Named.named (F := Ideal) Cert.KernelIdeal.κ "horner11" (φ := .f32) 0x32D7322B#32) * (t * t * n)
      + Named.named (F := Ideal) Cert.KernelIdeal.κ "horner9" (φ := .f32) 0xB638EF1D#32) * (t * t * n)
      + Named.named (F := Ideal) Cert.KernelIdeal.κ "horner7" (φ := .f32) 0x39500D01#32) * (t * t * n)
      + Named.named (F := Ideal) Cert.KernelIdeal.κ "horner5" (φ := .f32) 0xBC088889#32) * (t * t * n)
      + Named.named (F := Ideal) Cert.KernelIdeal.κ "horner3" (φ := .f32) 0x3E2AAAAB#32)

/-- The reference's polynomial at `t`: a coefficient is a derivative of the sine at 0 over a factorial. -/
def hornerOf (t : EReal) : EReal :=
  (((((((((((((0 * t
    + Ideal.div 1 (Ideal.ofBits .f32 0x4FB99466#32)) * t
    + Ideal.div 0 (Ideal.ofBits .f32 0x4DE467E0#32)) * t
    + Ideal.div (Ideal.ofBits .f32 0xBF800000#32) (Ideal.ofBits .f32 0x4C184540#32)) * t
    + Ideal.div 0 (Ideal.ofBits .f32 0x4A5D7C00#32)) * t
    + Ideal.div 1 (Ideal.ofBits .f32 0x48B13000#32)) * t
    + Ideal.div 0 (Ideal.ofBits .f32 0x471D8000#32)) * t
    + Ideal.div (Ideal.ofBits .f32 0xBF800000#32) (Ideal.ofBits .f32 0x459D8000#32)) * t
    + Ideal.div 0 (Ideal.ofBits .f32 0x44340000#32)) * t
    + Ideal.div 1 (Ideal.ofBits .f32 0x42F00000#32)) * t
    + Ideal.div 0 (Ideal.ofBits .f32 0x41C00000#32)) * t
    + Ideal.div (Ideal.ofBits .f32 0xBF800000#32) (Ideal.ofBits .f32 0x40C00000#32)) * t
    + Ideal.div 0 (Ideal.ofBits .f32 0x40000000#32)) * t
    + Ideal.div 1 1) * t
    + Ideal.div 0 1

/-- The Taylor polynomial of degree 13 over the reals. -/
def poly (t : ℝ) : ℝ :=
  t - t ^ 3 / 6 + t ^ 5 / 120 - t ^ 7 / 5040 + t ^ 9 / 362880 - t ^ 11 / 39916800 + t ^ 13 / 6227020800

/-- On the linear channel the flag is 0 and the argument passes unchanged, infinite or not. -/
theorem waveOf_zero (t : EReal) : waveOf 0 t = t := by
  simp [waveOf]

/-- At a real argument the kernel's value is the Taylor polynomial. -/
theorem waveOf_coe (t : ℝ) : waveOf 1 (t : EReal) = ((poly t : ℝ) : EReal) := by
  rw [waveOf, Consts.horner13, Consts.horner11, Consts.horner9, Consts.horner7, Consts.horner5, Consts.horner3, mul_one]
  simp only [← EReal.coe_mul, ← EReal.coe_add, ← EReal.coe_sub, EReal.coe_eq_coe_iff]
  unfold poly
  ring

/-- A quotient of reals by a real other than 0 is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The reference's polynomial with its coefficients evaluated. -/
theorem hornerOf_eq (t : EReal) : hornerOf t = (((((((((((((0 * t
    + ((1 / 6227020800 : ℝ) : EReal)) * t + 0) * t
    + ((-1 / 39916800 : ℝ) : EReal)) * t + 0) * t
    + ((1 / 362880 : ℝ) : EReal)) * t + 0) * t
    + ((-1 / 5040 : ℝ) : EReal)) * t + 0) * t
    + ((1 / 120 : ℝ) : EReal)) * t + 0) * t
    + ((-1 / 6 : ℝ) : EReal)) * t + 0) * t
    + ((1 : ℝ) : EReal)) * t + 0 := by
  have h1 : (1 : EReal) = ((1 : ℝ) : EReal) := rfl
  have z : ∀ b : ℝ, b ≠ 0 → Ideal.div 0 (b : EReal) = 0 := fun b hb => by rw [Ideal.div_coe hb, zero_mul]
  rw [hornerOf, Consts.fact13, Consts.fact12, Consts.fact11, Consts.fact10, Consts.fact9, Consts.fact8, Consts.fact7,
    Consts.fact6, Consts.fact5, Consts.fact4, Consts.fact3, Consts.fact2, Consts.negOne, h1]
  rw [div_coe_coe 1 (by norm_num : (6227020800 : ℝ) ≠ 0), div_coe_coe (-1) (by norm_num : (39916800 : ℝ) ≠ 0),
    div_coe_coe 1 (by norm_num : (362880 : ℝ) ≠ 0), div_coe_coe (-1) (by norm_num : (5040 : ℝ) ≠ 0),
    div_coe_coe 1 (by norm_num : (120 : ℝ) ≠ 0), div_coe_coe (-1) (by norm_num : (6 : ℝ) ≠ 0),
    div_coe_coe 1 (by norm_num : (1 : ℝ) ≠ 0), z _ (by norm_num), z _ (by norm_num), z _ (by norm_num), z _ (by norm_num),
    z _ (by norm_num), z _ (by norm_num), z _ (by norm_num), div_one]

/-- At a real argument the reference's value is the Taylor polynomial. -/
theorem hornerOf_coe (t : ℝ) : hornerOf (t : EReal) = ((poly t : ℝ) : EReal) := by
  have h0 : (0 : EReal) = ((0 : ℝ) : EReal) := rfl
  rw [hornerOf_eq, h0]
  simp only [← EReal.coe_mul, ← EReal.coe_add, EReal.coe_eq_coe_iff]
  unfold poly
  ring

/-- At plus infinity both are plus infinity. -/
theorem waveOf_top : waveOf 1 ⊤ = hornerOf ⊤ := by
  rw [waveOf, Consts.horner13, Consts.horner11, Consts.horner9, Consts.horner7, Consts.horner5, Consts.horner3, mul_one,
    hornerOf_eq]
  rw [EReal.top_mul_top, EReal.coe_mul_top_of_neg (by norm_num)]
  simp [EReal.coe_mul_top_of_pos]
  rw [← EReal.coe_one, EReal.top_add_coe]
  simp

/-- At minus infinity both are minus infinity. -/
theorem waveOf_bot : waveOf 1 ⊥ = hornerOf ⊥ := by
  rw [waveOf, Consts.horner13, Consts.horner11, Consts.horner9, Consts.horner7, Consts.horner5, Consts.horner3, mul_one,
    hornerOf_eq]
  rw [EReal.bot_mul_bot, EReal.coe_mul_top_of_neg (by norm_num)]
  simp [EReal.coe_mul_bot_of_pos]
  rw [← EReal.coe_one, EReal.top_add_coe]
  simp

/-- Off the linear channel the kernel's polynomial is the reference's, at every extended real. -/
theorem waveOf_one (t : EReal) : waveOf 1 t = hornerOf t := by
  induction t with
  | bot => exact waveOf_bot
  | top => exact waveOf_top
  | coe t => rw [waveOf_coe, hornerOf_coe]

end Cert.Taylor

end
-- ==== Proof.Block.lean ====
/- What one grid point leaves in its block of the result. The body handles sixteen rows of 3200 tokens, each by the same
   chain of operations: the embedding of the time, the table's row by a product with a one-hot matrix, the linear part of
   the value, the mark, and a product with the identity matrix that turns [channel, token] to [token, channel]. -/
module

public import proofs.«01_k».proof.Proof.Gen.KernelIdeal.Value
public import proofs.«01_k».proof.Proof.Taylor
public import Idealize.ShloMosaic.Lib.Pointwise
public import Idealize.ShloMosaic.Lib.Pipeline.ValueKit

@[expose] public section

set_option maxRecDepth 16384

noncomputable section

namespace Cert.Block

open Idealize.ShloMosaic Idealize.SL.Sem Cert.KernelIdeal Cert.KernelIdeal.Gen

/-- A vector over the extended reals. -/
abbrev V (s : Shape) : Type := Vec Ideal s .f32

/-- One token's value on one channel, from the token's time, id, value and mark and the channel's column of every
    parameter: `n` flags the sine channels, `tab` is the channel's column of the table, and `rows` holds the row numbers. -/
def token (n w b wv bv : EReal) (tab rows : Fin 128 → EReal) (time id val mark : EReal) : EReal :=
  (Taylor.waveOf n (time * w + b) + (∑ k, tab k * (((BitVec.ofBool (decide (rows k = id))).setWidth 32).toInt : ℝ) )
    + val * wv + bv) * mark

/-- The body's chain of operations on one row of 3200 tokens, the four planes' rows given apart. -/
def row (w b wv bv n : V S64x1) (rows : V S128x1) (tab : V S64x128) (eye : V S64x64)
    (x0 x1 x2 x3 : V S1x1x1x3200) : FVec Ideal S16x200x64 .f32 :=
  k0_pay14 wv (k0_pay4 bv) (k0_pay5 n) (k0_pay6 rows) (k0_pay7 tab) (k0_pay8 eye) (k0_pay9 x1) (k0_pay10 x2) (k0_pay11 x3)
    (k0_pay12 w x0) (k0_pay13 b)

/-- A row read at an index: the sum over the channels that the product with `eye` takes. -/
theorem row_apply (w b wv bv n : V S64x1) (rows : V S128x1) (tab : V S64x128) (eye : V S64x64)
    (x0 x1 x2 x3 : V S1x1x1x3200) (q : Fin 16) (l : Fin 200) (d : Fin 64) :
    row w b wv bv n rows tab eye x0 x1 x2 x3 (ix3 q l d)
      = ∑ e : Fin 64, token (n (ix2 e 0)) (w (ix2 e 0)) (b (ix2 e 0)) (wv (ix2 e 0)) (bv (ix2 e 0))
          (fun k => tab (ix2 e k)) (fun k => rows (ix2 k 0)) (x0 (ix4 0 0 0 ⟨q * 200 + l, by omega⟩))
          (x1 (ix4 0 0 0 ⟨q * 200 + l, by omega⟩)) (x2 (ix4 0 0 0 ⟨q * 200 + l, by omega⟩))
          (x3 (ix4 0 0 0 ⟨q * 200 + l, by omega⟩)) * eye (ix2 e d) := by
  pointwise [row, k0_pay14, k0_pay4, k0_pay5, k0_pay6, k0_pay7, k0_pay8, k0_pay9, k0_pay10, k0_pay11, k0_pay12, k0_pay13,
    k0_pay2, k0_pay3]
  rfl

/-- Row `r` of plane `k` of the tokens' planes, as the rectangle the body loads. -/
abbrev plane (k : Fin 4) (r : Fin 16) : Rect S4x1x16x3200 :=
  Rect.unit (s := S4x1x16x3200) ![k, 0, r, 0] S1x1x1x3200.size
    (by intro a; fin_cases a <;> simp <;> omega)

/-- The rectangle of the result that row `r` is stored at. -/
abbrev slab (r : Fin 16) : Rect S256x200x64 :=
  Rect.unit (s := S256x200x64) ![16 * r, 0, 0] S16x200x64.size
    (by intro a; fin_cases a <;> simp <;> omega)

/-- Row `r` of the block, from the nine operands as they are staged. -/
def rowAt (x0 : V S4x1x16x3200) (x1 x2 x3 x4 x5 : V S64x1) (x6 : V S128x1) (x7 : V S64x128) (x8 : V S64x64) (r : Fin 16) :
    FVec Ideal S16x200x64 .f32 :=
  row (View.ld x1 r0_0) (View.ld x2 r0_0) (View.ld x3 r0_0) (View.ld x4 r0_0) (View.ld x5 r0_0) (View.ld x6 r0_1)
    (View.ld x7 r0_2) (View.ld x8 r0_3) (View.ld x0 (plane 0 r)) (View.ld x0 (plane 1 r)) (View.ld x0 (plane 2 r))
    (View.ld x0 (plane 3 r))

/-- That row read at an index. -/
theorem rowAt_apply (x0 : V S4x1x16x3200) (x1 x2 x3 x4 x5 : V S64x1) (x6 : V S128x1) (x7 : V S64x128) (x8 : V S64x64)
    (r q : Fin 16) (l : Fin 200) (d : Fin 64) :
    rowAt x0 x1 x2 x3 x4 x5 x6 x7 x8 r (ix3 q l d)
      = ∑ e : Fin 64, token (x5 (ix2 e 0)) (x1 (ix2 e 0)) (x2 (ix2 e 0)) (x3 (ix2 e 0)) (x4 (ix2 e 0))
          (fun k => x7 (ix2 e k)) (fun k => x6 (ix2 k 0))
          (x0 (ix4 0 0 r ⟨q * 200 + l, by omega⟩)) (x0 (ix4 1 0 r ⟨q * 200 + l, by omega⟩))
          (x0 (ix4 2 0 r ⟨q * 200 + l, by omega⟩)) (x0 (ix4 3 0 r ⟨q * 200 + l, by omega⟩)) * x8 (ix2 e d) := by
  rw [rowAt, row_apply]
  pointwise [plane, r0_0, r0_1, r0_2, r0_3]

/-- The block after the body is the sixteen rows, stored at their sixteen rectangles. -/
theorem out_eq (x0 : V S4x1x16x3200) (x1 x2 x3 x4 x5 : V S64x1) (x6 : V S128x1) (x7 : V S64x128) (x8 : V S64x64) :
    out0_9 x0 x1 x2 x3 x4 x5 x6 x7 x8
      = View.canon (List.ofFn fun k : Fin 16 => (⟨slab k.rev, rowAt x0 x1 x2 x3 x4 x5 x6 x7 x8 k.rev⟩
            : View.Piece (Elt Ideal) S256x200x64 .f32)) := by
  rfl

/-- The block read at an index: batch row `p` of the block is row `p % 16` of the sixteen that row `p / 16` of the planes
    holds. -/
theorem out_apply (x0 : V S4x1x16x3200) (x1 x2 x3 x4 x5 : V S64x1) (x6 : V S128x1) (x7 : V S64x128) (x8 : V S64x64)
    (p : Fin 256) (l : Fin 200) (d : Fin 64) :
    out0_9 x0 x1 x2 x3 x4 x5 x6 x7 x8 (ix3 p l d)
      = ∑ e : Fin 64, token (x5 (ix2 e 0)) (x1 (ix2 e 0)) (x2 (ix2 e 0)) (x3 (ix2 e 0)) (x4 (ix2 e 0))
          (fun k => x7 (ix2 e k)) (fun k => x6 (ix2 k 0))
          (x0 (ix4 0 0 ⟨p / 16, by omega⟩ ⟨p % 16 * 200 + l, by omega⟩))
          (x0 (ix4 1 0 ⟨p / 16, by omega⟩ ⟨p % 16 * 200 + l, by omega⟩))
          (x0 (ix4 2 0 ⟨p / 16, by omega⟩ ⟨p % 16 * 200 + l, by omega⟩))
          (x0 (ix4 3 0 ⟨p / 16, by omega⟩ ⟨p % 16 * 200 + l, by omega⟩)) * x8 (ix2 e d) := by
  rw [out_eq]
  refine View.canon_ofFn_eq_of_forall (Val := Elt Ideal) (e := .f32) (fun k : Fin 16 => slab k.rev)
    (fun k : Fin 16 => rowAt x0 x1 x2 x3 x4 x5 x6 x7 x8 k.rev) _ _ ⟨(⟨p / 16, by omega⟩ : Fin 16).rev, ?_⟩ ?_
  · rw [Rect.mem_set_unit]
    intro a
    fin_cases a <;> simp
    omega
  · intro k x hx
    obtain ⟨q, l', d', rfl⟩ : ∃ (q : Fin 16) (l' : Fin 200) (d' : Fin 64), x = ix3 q l' d' :=
      ⟨x 0, x 1, x 2, by idx_vars x⟩
    have h0 := congrArg (fun y => (y 0 : ℕ)) hx
    have h1 := congrArg (fun y => (y 1 : ℕ)) hx
    have h2 := congrArg (fun y => (y 2 : ℕ)) hx
    simp [Rect.emb_apply] at h0 h1 h2
    obtain rfl : l' = l := Fin.ext h1
    obtain rfl : d' = d := Fin.ext h2
    have hk : k.rev = ⟨p / 16, by omega⟩ := Fin.ext (by simp; omega)
    have hq : q = ⟨p % 16, by omega⟩ := Fin.ext (by simp; omega)
    rw [hk, hq, rowAt_apply]

end Cert.Block

end
-- ==== Proof.Operands.lean ====
/- The nine operands of the kernel's call as each grid point reads them, entry by entry, in terms of the arguments. -/
module

public import proofs.«01_k».proof.Proof.Block
public import Idealize.ShloMosaic.Lib.Claim

@[expose] public section

set_option maxRecDepth 16384

noncomputable section

namespace Cert.Operands

open Idealize.ShloMosaic Idealize.ShloMosaic.TcCoe Idealize.SL.Sem Cert.KernelIdeal Cert.KernelIdeal.Gen

variable (m : (ℓ : Loc nD τ sig) → Buf (Elt Ideal) ℓ) (c : Dev nD)

/-! ## The arguments, and the columns joined from two of them -/

/-- The tokens, `x[b, l, 0..2]` = time, id, value. -/
abbrev xs : Block.V S4096x200x3 := m (c.tc.loc main_arg0)
/-- The marks. -/
abbrev marks : Block.V S4096x200x1 := m (c.tc.loc main_arg1)
/-- The weights of the sine channels. -/
abbrev wSin : Block.V S63x1 := m (c.tc.loc main_arg2)
/-- The offsets of the sine channels. -/
abbrev bSin : Block.V S63 := m (c.tc.loc main_arg3)
/-- The weight of the linear channel. -/
abbrev wLin : Block.V S1x1 := m (c.tc.loc main_arg4)
/-- The offset of the linear channel. -/
abbrev bLin : Block.V S1 := m (c.tc.loc main_arg5)
/-- The table of id rows. -/
abbrev table : Block.V S128x64 := m (c.tc.loc main_arg6)
/-- The weights of the value. -/
abbrev wVal : Block.V S64x1 := m (c.tc.loc main_arg7)
/-- The offsets of the value. -/
abbrev bVal : Block.V S64 := m (c.tc.loc main_arg8)

/-- Channel `d`'s weight of the time: the linear channel is channel 0. -/
def wTime (d : Fin 64) : EReal :=
  if _h : (d : ℕ) < 1 then wLin m c (ix2 0 0) else wSin m c (ix2 ⟨d - 1, by omega⟩ 0)

/-- Channel `d`'s offset of the time. -/
def bTime (d : Fin 64) : EReal :=
  if _h : (d : ℕ) < 1 then bLin m c (ix1 0) else bSin m c (ix1 ⟨d - 1, by omega⟩)

/-! ## The operands at the call -/

/-- One plane of the tokens, from the batch of lines of 200 tokens. -/
def plane (X : Block.V S4096x200) : Block.V S1x16x16x3200 :=
  broadcastInDim S1x16x16x3200 ![1, 2, 3] bcast_S16x16x3200_S1x16x16x3200_1_2_3
    (shapeCast S16x16x3200 X shapeCasts_S4096x200_S16x16x3200)

/-- The plane's token `j` of row `(g, r)` is token `j % 200` of line `256 g + 16 r + j / 200`. -/
theorem plane_apply (X : Block.V S4096x200) (g r : Fin 16) (j : Fin 3200) :
    plane X (ix4 0 g r j) = X (ix2 ⟨256 * g + 16 * r + j / 200, by omega⟩ ⟨j % 200, by omega⟩) := by
  pointwise [plane]
  blk_ext

/-- Column `k` of the tokens, as lines. -/
def column (X : Block.V S4096x200x3) (k : Fin 3) : Block.V S4096x200 := fun i => X (ix3 (i 0) (i 1) k)

/-- The first plane holds the times. -/
theorem plane_time : (V m c main_v11 : Block.V S1x16x16x3200) = plane (column (xs m c) 0) := by
  entry_read
  refine congrArg plane (funext fun i => ?_)
  pointwise [column]

/-- The second plane holds the ids. -/
theorem plane_id : (V m c main_v12 : Block.V S1x16x16x3200) = plane (column (xs m c) 1) := by
  entry_read
  refine congrArg plane (funext fun i => ?_)
  pointwise [column]

/-- The third plane holds the values. -/
theorem plane_val : (V m c main_v13 : Block.V S1x16x16x3200) = plane (column (xs m c) 2) := by
  entry_read
  refine congrArg plane (funext fun i => ?_)
  pointwise [column]

/-- The fourth plane holds the marks. -/
theorem plane_mark : (V m c main_v14 : Block.V S1x16x16x3200) = plane (fun i => marks m c (ix3 (i 0) (i 1) 0)) := by
  entry_read
  refine congrArg plane (funext fun i => ?_)
  pointwise

/-- Four planes stacked. -/
def stack (A B C D : Block.V S1x16x16x3200) : Block.V S4x16x16x3200 :=
  concatenate S4x16x16x3200 0 [⟨S1x16x16x3200, A⟩, ⟨S1x16x16x3200, B⟩, ⟨S1x16x16x3200, C⟩, ⟨S1x16x16x3200, D⟩]
    concatenates_S1x16x16x3200_S1x16x16x3200_S1x16x16x3200_S1x16x16x3200_S4x16x16x3200_d0

/-- The stack of planes is read plane by plane. -/
theorem stack_apply (A B C D : Block.V S1x16x16x3200) (g r : Fin 16) (j : Fin 3200) :
    stack A B C D (ix4 0 g r j) = A (ix4 0 g r j) ∧ stack A B C D (ix4 1 g r j) = B (ix4 0 g r j)
      ∧ stack A B C D (ix4 2 g r j) = C (ix4 0 g r j) ∧ stack A B C D (ix4 3 g r j) = D (ix4 0 g r j) := by
  refine ⟨?_, ?_, ?_, ?_⟩ <;> pointwise [stack]

set_option maxHeartbeats 4000000 in
/-- The first operand is the stack of the times, the ids, the values and the marks. -/
theorem planes_eq : (V m c main_v15 : Block.V S4x16x16x3200)
    = stack (V m c main_v11) (V m c main_v12) (V m c main_v13) (V m c main_v14) := by
  rfl

/-- The first operand's entries: token `l` of line `256 g + p`, with its time, id, value and mark on the four planes. -/
theorem planes_apply (g : Fin 16) (p : Fin 256) (l : Fin 200) :
    (V m c main_v15 : Block.V S4x16x16x3200) (ix4 0 g ⟨p / 16, by omega⟩ ⟨p % 16 * 200 + l, by omega⟩)
        = xs m c (ix3 ⟨256 * g + p, by omega⟩ l 0)
      ∧ (V m c main_v15 : Block.V S4x16x16x3200) (ix4 1 g ⟨p / 16, by omega⟩ ⟨p % 16 * 200 + l, by omega⟩)
        = xs m c (ix3 ⟨256 * g + p, by omega⟩ l 1)
      ∧ (V m c main_v15 : Block.V S4x16x16x3200) (ix4 2 g ⟨p / 16, by omega⟩ ⟨p % 16 * 200 + l, by omega⟩)
        = xs m c (ix3 ⟨256 * g + p, by omega⟩ l 2)
      ∧ (V m c main_v15 : Block.V S4x16x16x3200) (ix4 3 g ⟨p / 16, by omega⟩ ⟨p % 16 * 200 + l, by omega⟩)
        = marks m c (ix3 ⟨256 * g + p, by omega⟩ l 0) := by
  have hp : 256 * (g : ℕ) + 16 * (p / 16) + (p % 16 * 200 + l) / 200 = 256 * g + p := by omega
  have hl : ((p : ℕ) % 16 * 200 + l) % 200 = l := by omega
  obtain ⟨h0, h1, h2, h3⟩ := stack_apply (V m c main_v11) (V m c main_v12) (V m c main_v13) (V m c main_v14)
    g ⟨p / 16, by omega⟩ ⟨p % 16 * 200 + l, by omega⟩
  rw [planes_eq, h0, h1, h2, h3, plane_time, plane_id, plane_val, plane_mark]
  simp only [plane_apply, hp, hl]
  exact ⟨rfl, rfl, rfl, rfl⟩

/-- The second operand holds the weights of the time: the linear channel's, then the sine channels'. -/
theorem wTime_apply (e : Fin 64) : (V m c main_v19 : Block.V S64x1) (ix2 e 0) = wTime m c e := by
  entry_read
  pointwise
  rfl

/-- The third operand holds the offsets of the time, in the same order. -/
theorem bTime_apply (e : Fin 64) : (V m c main_v21 : Block.V S64x1) (ix2 e 0) = bTime m c e := by
  entry_read
  pointwise
  rw [bTime]
  by_cases h : (e : ℕ) < 1
  · obtain rfl : e = 0 := Fin.ext (by simp; omega)
    rfl
  · rw [dif_neg h, dif_neg h]

/-- The fourth operand holds the weights of the value. -/
theorem wVal_apply (e : Fin 64) : (V m c main_arg7 : Block.V S64x1) (ix2 e 0) = wVal m c (ix2 e 0) := by
  rw [V_main_arg7]

/-- The fifth operand holds the offsets of the value. -/
theorem bVal_apply (e : Fin 64) : (V m c main_v22 : Block.V S64x1) (ix2 e 0) = bVal m c (ix1 e) := by
  entry_read
  pointwise

/-- The eighth operand is the table, turned. -/
theorem table_apply (e : Fin 64) (k : Fin 128) :
    (V m c main_v30 : Block.V S64x128) (ix2 e k) = table m c (ix2 k e) := by
  entry_read
  pointwise

/-- A small number as a word is the number. -/
theorem toInt_ofNat_small (n : ℕ) (h : n < 128) : ((BitVec.ofNat 32 n).toInt : ℝ) = n := by
  have : (BitVec.ofNat 32 n).toInt = n := by
    rw [BitVec.toInt_eq_toNat_of_lt] <;> simp <;> omega
  rw [this]; simp

/-- The sixth operand is zero on the linear channel and one on the sine channels. -/
theorem flag_apply (e : Fin 64) :
    (V m c main_v27 : Block.V S64x1) (ix2 e 0) = (if e = 0 then 0 else 1 : EReal) := by
  entry_read
  pointwise
  show (((BitVec.ofBool (decide (0 < (((BitVec.ofNat 32 e).toInt : ℝ) : EReal)))).toNat : ℝ) : EReal) = _
  rw [toInt_ofNat_small _ (by omega)]
  by_cases h : e = 0
  · subst h; simp
  · have : (0 : ℝ) < (e : ℕ) := by
      have : (e : ℕ) ≠ 0 := fun h' => h (Fin.ext h')
      exact_mod_cast Nat.pos_of_ne_zero this
    have h2 : (0 : EReal) < (((e : ℕ) : ℝ) : EReal) := by exact_mod_cast this
    simp only [h2, h, decide_true, if_false]
    simp

/-- The seventh operand holds the row numbers 0 to 127. -/
theorem rows_apply (k : Fin 128) : (V m c main_v29 : Block.V S128x1) (ix2 k 0) = (((k : ℕ) : ℝ) : EReal) := by
  entry_read
  pointwise
  show (((BitVec.ofNat 32 k).toInt : ℝ) : EReal) = _
  rw [toInt_ofNat_small _ k.isLt]

/-- The ninth operand is the identity matrix. -/
theorem eye_apply (e d : Fin 64) :
    (V m c main_v36 : Block.V S64x64) (ix2 e d) = (if e = d then 1 else 0 : EReal) := by
  entry_read
  pointwise
  show (((BitVec.ofBool (BitVec.ofNat 32 e + 0#32 == BitVec.ofNat 32 d)).toNat : ℝ) : EReal) = _
  by_cases h : e = d
  · subst h; simp
  · have : ¬ BitVec.ofNat 32 e = BitVec.ofNat 32 d := fun h' => h (Fin.ext (by
      have := congrArg BitVec.toNat h'
      simpa [Nat.mod_eq_of_lt, show (e : ℕ) < 4294967296 by omega, show (d : ℕ) < 4294967296 by omega] using this))
    simp [h, this]

/-! ## The operands' blocks -/

/-- Point `t` stages slice `t` of the planes, and every other operand whole. -/
theorem idx : ∀ t : Fin cfg0.N, win0_0.index t = ![0, (t : ℕ), 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![(t : ℕ), 0, 0] := by
  decide +kernel

/-- The grid has sixteen points. -/
theorem point_lt (t : Fin cfg0.N) : (t : ℕ) < 16 := t.isLt

/-- The tokens' planes as point `t` finds them. -/
theorem blk0 (t : Fin cfg0.N) (k : Fin 4) (r : Fin 16) (j : Fin 3200) :
    iblk m c 0 t (ix4 k 0 r j) = V m c main_v15 (ix4 k ⟨t, point_lt t⟩ r j) := by
  blk_ext [iblk, idx t]

/-- Line `p` and token `l` of point `t`'s block, on the four planes: the time, the id, the value and the mark. -/
theorem blk0_apply (t : Fin cfg0.N) (p : Fin 256) (l : Fin 200) :
    iblk m c 0 t (ix4 0 0 ⟨p / 16, by omega⟩ ⟨p % 16 * 200 + l, by omega⟩)
        = xs m c (ix3 ⟨256 * t + p, by have := point_lt t; omega⟩ l 0)
      ∧ iblk m c 0 t (ix4 1 0 ⟨p / 16, by omega⟩ ⟨p % 16 * 200 + l, by omega⟩)
        = xs m c (ix3 ⟨256 * t + p, by have := point_lt t; omega⟩ l 1)
      ∧ iblk m c 0 t (ix4 2 0 ⟨p / 16, by omega⟩ ⟨p % 16 * 200 + l, by omega⟩)
        = xs m c (ix3 ⟨256 * t + p, by have := point_lt t; omega⟩ l 2)
      ∧ iblk m c 0 t (ix4 3 0 ⟨p / 16, by omega⟩ ⟨p % 16 * 200 + l, by omega⟩)
        = marks m c (ix3 ⟨256 * t + p, by have := point_lt t; omega⟩ l 0) := by
  obtain ⟨h0, h1, h2, h3⟩ := planes_apply m c ⟨t, point_lt t⟩ p l
  exact ⟨(blk0 m c t _ _ _).trans h0, (blk0 m c t _ _ _).trans h1, (blk0 m c t _ _ _).trans h2,
    (blk0 m c t _ _ _).trans h3⟩

/-- The weights of the time as every point finds them. -/
theorem blk1 (t : Fin cfg0.N) (e : Fin 64) :
    iblk m c 1 t (ix2 e 0) = (wTime m c e : EReal) := by
  refine Eq.trans (b := V m c main_v19 (ix2 e 0)) ?_ (wTime_apply m c e)
  blk_ext [iblk, idx t]

/-- The offsets of the time. -/
theorem blk2 (t : Fin cfg0.N) (e : Fin 64) :
    iblk m c 2 t (ix2 e 0) = (bTime m c e : EReal) := by
  refine Eq.trans (b := V m c main_v21 (ix2 e 0)) ?_ (bTime_apply m c e)
  blk_ext [iblk, idx t]

/-- The weights of the value. -/
theorem blk3 (t : Fin cfg0.N) (e : Fin 64) :
    iblk m c 3 t (ix2 e 0) = (wVal m c (ix2 e 0) : EReal) := by
  refine Eq.trans (b := V m c main_arg7 (ix2 e 0)) ?_ (wVal_apply m c e)
  blk_ext [iblk, idx t]

/-- The offsets of the value. -/
theorem blk4 (t : Fin cfg0.N) (e : Fin 64) :
    iblk m c 4 t (ix2 e 0) = (bVal m c (ix1 e) : EReal) := by
  refine Eq.trans (b := V m c main_v22 (ix2 e 0)) ?_ (bVal_apply m c e)
  blk_ext [iblk, idx t]

/-- The flags of the sine channels. -/
theorem blk5 (t : Fin cfg0.N) (e : Fin 64) :
    iblk m c 5 t (ix2 e 0) = (if e = 0 then 0 else 1 : EReal) := by
  refine Eq.trans (b := V m c main_v27 (ix2 e 0)) ?_ (flag_apply m c e)
  blk_ext [iblk, idx t]

/-- The row numbers. -/
theorem blk6 (t : Fin cfg0.N) (k : Fin 128) :
    iblk m c 6 t (ix2 k 0) = (((k : ℕ) : ℝ) : EReal) := by
  refine Eq.trans (b := V m c main_v29 (ix2 k 0)) ?_ (rows_apply m c k)
  blk_ext [iblk, idx t]

/-- The table, turned. -/
theorem blk7 (t : Fin cfg0.N) (e : Fin 64) (k : Fin 128) :
    iblk m c 7 t (ix2 e k) = (table m c (ix2 k e) : EReal) := by
  refine Eq.trans (b := V m c main_v30 (ix2 e k)) ?_ (table_apply m c e k)
  blk_ext [iblk, idx t]

/-- The identity matrix. -/
theorem blk8 (t : Fin cfg0.N) (e d : Fin 64) :
    iblk m c 8 t (ix2 e d) = (if e = d then 1 else 0 : EReal) := by
  refine Eq.trans (b := V m c main_v36 (ix2 e d)) ?_ (eye_apply m c e d)
  blk_ext [iblk, idx t]

end Cert.Operands

end
-- ==== Proof.Whole.lean ====
/- The kernel's result array, entry by entry: the sixteen grid points' blocks put together. -/
module

public import proofs.«01_k».proof.Proof.Operands

@[expose] public section

set_option maxRecDepth 16384

noncomputable section

namespace Cert.Whole

open Idealize.ShloMosaic Idealize.ShloMosaic.TcCoe Idealize.SL.Sem Cert.KernelIdeal Cert.KernelIdeal.Gen
open Cert.Operands

variable (m : (ℓ : Loc nD τ sig) → Buf (Elt Ideal) ℓ) (c : Dev nD)

/-- What the kernel puts at line `b`, token `l`, channel `d`. -/
def value (b : Fin 4096) (l : Fin 200) (d : Fin 64) : EReal :=
  Block.token (if d = 0 then 0 else 1) (wTime m c d) (bTime m c d) (wVal m c (ix2 d 0)) (bVal m c (ix1 d))
    (fun k => table m c (ix2 k d)) (fun k => (((k : ℕ) : ℝ) : EReal))
    (xs m c (ix3 b l 0)) (xs m c (ix3 b l 1)) (xs m c (ix3 b l 2)) (marks m c (ix3 b l 0))

/-- The product with the identity matrix keeps the channel's own term. -/
theorem sum_eye (f : Fin 64 → EReal) (d : Fin 64) : ∑ e : Fin 64, f e * (if e = d then 1 else 0) = f d := by
  rw [Finset.sum_eq_single d]
  · simp
  · intro e _ h
    simp [h]
  · simp

/-- Point `t`'s block, entry by entry. -/
theorem block_apply (t : Fin cfg0.N) (p : Fin 256) (l : Fin 200) (d : Fin 64) :
    out0_9 (iblk m c 0 t) (iblk m c 1 t) (iblk m c 2 t) (iblk m c 3 t) (iblk m c 4 t) (iblk m c 5 t) (iblk m c 6 t)
        (iblk m c 7 t) (iblk m c 8 t) (ix3 p l d)
      = value m c ⟨256 * t + p, by have := point_lt t; omega⟩ l d := by
  refine (Block.out_apply _ _ _ _ _ _ _ _ _ p l d).trans ?_
  obtain ⟨h0, h1, h2, h3⟩ := blk0_apply m c t p l
  simp only [h0, h1, h2, h3, blk1, blk2, blk3, blk4, blk5, blk6, blk7, blk8]
  exact sum_eye _ d

/-- The result array after the run. -/
theorem arr_eq : (dats m 0 c).arrAt 9 cfg0.N = fun i : S4096x200x64.Idx => value m c (i 0) (i 1) (i 2) := by
  refine (dats m 0 c).arrAt_eq_of_covers 9 _ (by decide +kernel) fun t hf y => ?_
  blk_simp
  rw [after0_9]
  have hy : y = ix3 (y 0) (y 1) (y 2) := by idx_vars y; rfl
  rw [hy]
  refine (block_apply m c t (y 0) (y 1) (y 2)).trans ?_
  congr 1 <;> refine Fin.ext ?_ <;> blk_simp [idx t]
  exact congrArg (· + (y 0 : ℕ)) (Nat.mul_comm 256 t)

end Cert.Whole

end
-- ==== Proof.Lookup.lean ====
/- Looking up a row of the table by the id of a token: as the reference does it, by a gather at the id read as a word
   (negative words wrapped, words out of range answered by a filler), and as the kernel does it, by a sum against a one-hot
   column. Both give row `k` of the table when the id is the number `k`, `k < 128`. -/
module

public import Idealize.ShloMosaic.PureOps.Ideal
public import Idealize.ShloMosaic.PureOps
public import Idealize.ShloMosaic.Lib.Pointwise
public import Mathlib.Tactic.NormNum

@[expose] public section

noncomputable section

namespace Cert.Lookup

open Idealize.ShloMosaic

/-- The dimension numbers of a gather of whole rows of a `[128, 64]` table at `[4096, 200, 1]` row numbers. -/
abbrev rowDims (wf : GatherDims.WF ⟨2, ![128, 64]⟩ ⟨3, ![4096, 200, 1]⟩ ⟨3, ![4096, 200, 64]⟩ [2] [0] [] [0] [] 2 ![1, 64]) :
    GatherDims ⟨2, ![128, 64]⟩ ⟨3, ![4096, 200, 1]⟩ ⟨3, ![4096, 200, 64]⟩ where
  offsetDims := [2]
  collapsedSliceDims := [0]
  operandBatchingDims := []
  startIndicesBatchingDims := []
  startIndexMap := [0]
  indexVectorDim := 2
  sliceSizes := ![1, 64]
  wf := wf

/-- A small number as a word, read back signed. -/
theorem toInt_ofNat (k : ℕ) (h : k < 128) : (BitVec.ofNat 32 k).toInt = k := by
  rw [BitVec.toInt_eq_toNat_of_lt] <;> simp <;> omega

/-- The gather read at an index whose row number is `k`: the table's entry `(k, d)`. -/
theorem gather_apply
    (wf : GatherDims.WF ⟨2, ![128, 64]⟩ ⟨3, ![4096, 200, 1]⟩ ⟨3, ![4096, 200, 64]⟩ [2] [0] [] [0] [] 2 ![1, 64])
    {α : Type} (T : (⟨2, ![128, 64]⟩ : Shape).Idx → α) (I : IVec ⟨3, ![4096, 200, 1]⟩ 32) (b : Fin 4096) (l : Fin 200)
    (d : Fin 64) (k : Fin 128) (hI : I (ix3 b l 0) = BitVec.ofNat 32 k) :
    Host.gather (rowDims wf) T I (ix3 b l d) = T (ix2 k d) := by
  unfold Host.gather
  refine congrArg T (funext fun a => Fin.ext ?_)
  show (rowDims wf).start (ix3 b l d) I a + (rowDims wf).batchCoord (ix3 b l d) a + (rowDims wf).offCoord (ix3 b l d) a = _
  rw [GatherDims.batchCoord_eq_zero _ _ _ List.not_mem_nil, Nat.add_zero]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)),
      Nat.add_zero]
    unfold GatherDims.start
    rw [dif_pos (show (0 : Fin 2) ∈ (rowDims wf).startIndexMap from List.mem_singleton.mpr rfl)]
    have hsi : (rowDims wf).siIdx (ix3 b l d) ⟨List.idxOf (0 : Fin 2) (rowDims wf).startIndexMap,
        List.idxOf_lt_length_iff.2 (List.mem_singleton.mpr rfl)⟩ = ix3 b l 0 := by
      funext a'
      refine Fin.ext ?_
      match a' with
      | ⟨0, _⟩ => rfl
      | ⟨1, _⟩ => rfl
      | ⟨2, _⟩ => rfl
    have hk := k.isLt
    refine Eq.trans (b := min (I (ix3 b l 0)).toInt.toNat 127) (congrArg (fun j => min (I j).toInt.toNat 127) hsi) ?_
    rw [hI, toInt_ofNat _ hk]
    show min (k : ℕ) 127 = k
    omega
  · unfold GatherDims.start
    rw [dif_neg (show ¬ (1 : Fin 2) ∈ (rowDims wf).startIndexMap from fun h => absurd (List.mem_singleton.mp h) (by decide)),
      Nat.zero_add]
    rfl

/-- The number `k` as a word. -/
theorem fptosi_coe (k : Fin 128) : Ideal.fptosi 32 (((k : ℕ) : ℝ) : EReal) = BitVec.ofNat 32 k := by
  rw [Ideal.fptosi, Ideal.toIntClamped_coe, if_pos (by positivity)]
  have : ⌊((k : ℕ) : ℝ)⌋ = ((k : ℕ) : ℤ) := by simp
  rw [this]
  have hk := k.isLt
  have : max (-((2 ^ (32 - 1) : ℕ) : ℤ)) (min (((2 ^ (32 - 1) : ℕ) : ℤ) - 1) ((k : ℕ) : ℤ)) = ((k : ℕ) : ℤ) := by
    norm_num; omega
  rw [this, BitVec.ofInt_natCast]

/-- A word wrapped as the reference wraps it: a negative word counts from the table's end. -/
def wrap (w : BitVec 32) : BitVec 32 :=
  Scalar.select (IntOp.cmpi .slt w 0#32) (IntOp.addi w 128#32) w

/-- A row number is not wrapped. -/
theorem wrap_ofNat (k : Fin 128) : wrap (BitVec.ofNat 32 k) = BitVec.ofNat 32 k := by
  revert k; decide

/-- A row number is in range. -/
theorem inRange (k : Fin 128) :
    IntOp.andi (IntOp.cmpi .sge (BitVec.ofNat 32 k) 0#32) (IntOp.cmpi .sle (BitVec.ofNat 32 k) 127#32) = 1#1 := by
  revert k; decide

/-- The sum of a table's column against the one-hot column of row number `k`: the column's entry `k`. -/
theorem sum_oneHot (tab : Fin 128 → EReal) (k : Fin 128) :
    ∑ j : Fin 128, tab j * (((BitVec.ofBool (decide ((((j : ℕ) : ℝ) : EReal) = (((k : ℕ) : ℝ) : EReal)))).setWidth 32).toInt : ℝ)
      = tab k := by
  rw [Finset.sum_eq_single k]
  · simp
  · intro j _ h
    have : ¬ (((j : ℕ) : ℝ) : EReal) = (((k : ℕ) : ℝ) : EReal) := fun h' => h (Fin.ext (by exact_mod_cast h'))
    rw [decide_eq_false this]
    simp
  · simp

/-- The number `k` as a word, by the operation that converts. -/
theorem word_coe (k : Fin 128) : FloatOps.fptosi (F := Ideal) (φ := .f32) 32 (((k : ℕ) : ℝ) : EReal) = BitVec.ofNat 32 k :=
  fptosi_coe k

/-- A conjunction of one bit that is set is set. -/
theorem fold_one : Finset.fold IntOp.andi 1#1 (fun _ : Fin 1 => 1#1) Finset.univ = 1#1 := by
  decide

/-- A choice by a bit that is set. -/
theorem select_one {α : Type} (x y : α) : Scalar.select 1#1 x y = x := rfl

end Cert.Lookup

end
-- ==== Proof.Plain.lean ====
/- The common form that both programs come to at an entry whose id is a row number: the embedding of the time, the table's
   row, the linear part of the value, and the mark. -/
module

public import Idealize.ShloMosaic.PureOps.Ideal
public import Idealize.ShloMosaic.Lib.Pointwise

@[expose] public section

noncomputable section

namespace Cert.Plain

open Idealize.ShloMosaic

/-- Line `b`, token `l`, channel `d` of the result, for a token whose id is `k`, with `wave` in the sine's place. -/
def entry (wave : EReal → EReal) (x : Vec Ideal ⟨3, ![4096, 200, 3]⟩ .f32) (mark : Vec Ideal ⟨3, ![4096, 200, 1]⟩ .f32)
    (wSin : Vec Ideal ⟨2, ![63, 1]⟩ .f32) (bSin : Vec Ideal ⟨1, ![63]⟩ .f32) (wLin : Vec Ideal ⟨2, ![1, 1]⟩ .f32)
    (bLin : Vec Ideal ⟨1, ![1]⟩ .f32) (table : Vec Ideal ⟨2, ![128, 64]⟩ .f32) (wVal : Vec Ideal ⟨2, ![64, 1]⟩ .f32)
    (bVal : Vec Ideal ⟨1, ![64]⟩ .f32) (k : Fin 128) (b : Fin 4096) (l : Fin 200) (d : Fin 64) : EReal :=
  ((if _h : (d : ℕ) < 1 then x (ix3 b l 0) * wLin (ix2 0 0) + bLin (ix1 0)
      else wave (x (ix3 b l 0) * wSin (ix2 ⟨d - 1, by omega⟩ 0) + bSin (ix1 ⟨d - 1, by omega⟩)))
    + table (ix2 k d) + (x (ix3 b l 2) * wVal (ix2 d 0) + bVal (ix1 d))) * mark (ix3 b l 0)

end Cert.Plain

end
-- ==== Proof.Equation.lean ====
/- The kernel's entry in the common form: at a token whose id is a row number the kernel's result is what the reference's
   is. -/
module

public import proofs.«01_k».proof.Proof.Whole
public import proofs.«01_k».proof.Proof.Lookup
public import proofs.«01_k».proof.Proof.Plain

@[expose] public section

noncomputable section

namespace Cert.Whole

open Idealize.ShloMosaic Idealize.ShloMosaic.TcCoe Idealize.SL.Sem Cert.KernelIdeal Cert.KernelIdeal.Gen
open Cert.Operands

variable (m : (ℓ : Loc nD τ sig) → Buf (Elt Ideal) ℓ) (c : Dev nD)

/-- At a token whose id is the number `k`, the kernel's result is the common form with the Taylor polynomial. -/
theorem value_eq (b : Fin 4096) (l : Fin 200) (d : Fin 64) (k : Fin 128)
    (hx : xs m c (ix3 b l 1) = (((k : ℕ) : ℝ) : EReal)) :
    value m c b l d = Plain.entry Taylor.hornerOf (xs m c) (marks m c) (wSin m c) (bSin m c) (wLin m c) (bLin m c)
      (table m c) (wVal m c) (bVal m c) k b l d := by
  unfold value Block.token Plain.entry
  rw [hx, Lookup.sum_oneHot, add_assoc]
  unfold wTime bTime
  by_cases h : (d : ℕ) < 1
  · obtain rfl : d = 0 := Fin.ext (by simp; omega)
    simp only [h, dif_pos, if_true, Taylor.waveOf_zero]
  · have h0 : d ≠ 0 := fun e => h (by rw [e]; decide)
    simp only [h, h0, dif_neg, if_false, not_false_eq_true, Taylor.waveOf_one]

end Cert.Whole

end
-- ==== Proof.Reference.lean ====
/- What the reference computes, entry by entry. -/
module

public import proofs.«01_k».proof.Proof.Gen.ReferenceIdeal.Run
public import proofs.«01_k».proof.Proof.Lookup
public import proofs.«01_k».proof.Proof.Plain
public import proofs.«01_k».proof.Proof.Taylor
public import Idealize.ShloMosaic.Lib.Pointwise
public import Idealize.ShloMosaic.Lib.Tactic.CleanTypes

@[expose] public section

set_option maxRecDepth 16384

noncomputable section

namespace Cert.Reference

open Idealize.ShloMosaic Idealize.ShloMosaic.TcCoe Idealize.SL.Sem Cert.ReferenceIdeal Cert.ReferenceIdeal.Value

/-- At a token whose id is the number `k`, the reference's result is the common form with the Taylor polynomial as it
    evaluates it. -/
theorem res_apply (m : (ℓ : Loc nD τ sig) → Buf (Elt Ideal) ℓ) (c : Dev nD) (b : Fin 4096) (l : Fin 200) (d : Fin 64)
    (k : Fin 128) (hx : m (c.tc.loc main_arg0) (ix3 b l 1) = (((k : ℕ) : ℝ) : EReal)) :
    res_out0 m c (ix3 b l d) = Plain.entry Taylor.hornerOf (m (c.tc.loc main_arg0)) (m (c.tc.loc main_arg1))
      (m (c.tc.loc main_arg2)) (m (c.tc.loc main_arg3)) (m (c.tc.loc main_arg4)) (m (c.tc.loc main_arg5))
      (m (c.tc.loc main_arg6)) (m (c.tc.loc main_arg7)) (m (c.tc.loc main_arg8)) k b l d := by
  have hw := Lookup.wrap_ofNat k
  unfold Lookup.wrap at hw
  have hg : ∀ (T : Vec Ideal S128x64 .f32) (I : IVec S4096x200x1 32) (hI : I (ix3 b l 0) = BitVec.ofNat 32 k),
      Host.gather gather_S128x64_S4096x200x1_S4096x200x64_2_0_n_n_0_2_164 T I (ix3 b l d) = T (ix2 k d) :=
    fun T I hI => Lookup.gather_apply Facts₀.gather_S128x64_S4096x200x1_S4096x200x64_2_0_n_n_0_2_164_wf T I b l d k hI
  unfold res_out0 res_main_v82
  clean_types
  pointwise
  rw [hg]
  case hI =>
    pointwise
    rw [hx, Lookup.word_coe, hw]
  simp only [hx, Lookup.word_coe, hw, Lookup.inRange, Lookup.fold_one, Finset.univ_unique, Finset.sum_singleton,
    Lookup.select_one]
  unfold Plain.entry
  by_cases h : (d : ℕ) < 1
  · obtain rfl : d = 0 := Fin.ext (by simp; omega)
    rfl
  · rw [dif_neg h, dif_neg h]
    rfl

end Cert.Reference

end
-- ==== Proof.Ids.lean ====
/-
What the two preconditions say of the argument arrays, one number at a time.

`ids`: every entry of column 1 of `x` is a whole number between 0 and 127, so it names a row of the
table. `finite_ids`: the same, and every entry of every argument is a real number, the weights and biases of the sine's
argument excepted.
-/
module

public import proofs.«01_k».proof.Proof.Gen.Pre_ids
public import proofs.«01_k».proof.Proof.Gen.Pre_finite_ids
public import proofs.«01_k».proof.Proof.Consts
public import Idealize.ShloMosaic.Lib.Pointwise
public import Idealize.ShloMosaic.Lib.Tactic.CleanTypes

@[expose] public section

set_option maxRecDepth 16384

noncomputable section

namespace Cert.Ids

open Idealize.ShloMosaic

/-- A bit made of a decided statement is one exactly when the statement holds. -/
theorem bit_one (p : Prop) [Decidable p] : BitVec.ofBool (decide p) = 1#1 ↔ p := by
  by_cases h : p <;> simp [h]

/-- The conjunction of two bits is one exactly when both are. -/
theorem and_one (a b : BitVec 1) : IntOp.andi a b = 1#1 ↔ a = 1#1 ∧ b = 1#1 := by
  revert a b; decide

/-- An extended real that equals its floor and lies between 0 and 127 is one of the naturals below 128. -/
theorem whole_number (v : EReal) (h : v = Ideal.liftRound Int.floor v) (h0 : 0 ≤ v)
    (h127 : v ≤ ((127 : ℝ) : EReal)) : ∃ k : Fin 128, v = (((k : ℕ) : ℝ) : EReal) := by
  induction v with
  | bot => simp at h0
  | top => simp at h127
  | coe r =>
    rw [Ideal.liftRound_coe, EReal.coe_eq_coe_iff] at h
    have h0' : (0 : ℝ) ≤ r := by exact_mod_cast h0
    have h1 : r ≤ 127 := by exact_mod_cast h127
    have hz : 0 ≤ ⌊r⌋ := Int.floor_nonneg.mpr h0'
    obtain ⟨n, hn⟩ := Int.eq_ofNat_of_zero_le hz
    have hr : r = (n : ℝ) := by rw [h, hn]; simp
    have hlt : n < 128 := by
      have : (n : ℝ) ≤ 127 := hr ▸ h1
      have : n ≤ 127 := by exact_mod_cast this
      omega
    exact ⟨⟨n, hlt⟩, by rw [hr]⟩

/-- An extended real whose absolute value is below infinity is a real number. -/
theorem real_of_abs_lt (v : EReal) (h : BitVec.ofBool (decide (FloatOps.absf (F := Ideal) (φ := .f32) v < Ideal.ofBits FTy.f32 2139095040#32)) = 1#1) :
    ∃ r : ℝ, v = (r : EReal) := by
  rw [bit_one, Consts.infinity] at h
  change max v (-v) < ⊤ at h
  induction v with
  | bot => simp at h
  | top => simp at h
  | coe r => exact ⟨r, rfl⟩

section

variable (x0 : FVec Ideal Pre_ids.S4096x200x3 .f32) (x1 : FVec Ideal Pre_ids.S4096x200x1 .f32)
  (x2 : FVec Ideal Pre_ids.S63x1 .f32) (x3 : FVec Ideal Pre_ids.S63 .f32) (x4 : FVec Ideal Pre_ids.S1x1 .f32)
  (x5 : FVec Ideal Pre_ids.S1 .f32) (x6 : FVec Ideal Pre_ids.S128x64 .f32) (x7 : FVec Ideal Pre_ids.S64x1 .f32)
  (x8 : FVec Ideal Pre_ids.S64 .f32)

/-- Under `ids`, column 1 of every token is a natural number below 128. -/
theorem ids [Cert.Pre_ids.Facts]
    (h : Cert.Pre_ids.fn (F := Ideal) x0 x1 x2 x3 x4 x5 x6 x7 x8 = fun _ => 1#1) (b : Fin 4096) (l : Fin 200) :
    ∃ k : Fin 128, x0 (ix3 b l 1) = (((k : ℕ) : ℝ) : EReal) := by
  have h := congrFun h (ix2 b l)
  unfold Cert.Pre_ids.fn at h
  pointwise at h
  rw [and_one, and_one, bit_one, bit_one, bit_one, Consts.c127] at h
  exact whole_number _ h.1.1 h.1.2 h.2

variable [Cert.Pre_finite_ids.Facts]

/-- Under the first part of `finite_ids`, column 1 of every token is a natural number below 128. -/
theorem finite_ids
    (h : (Cert.Pre_finite_ids.fn (F := Ideal) x0 x1 x2 x3 x4 x5 x6 x7 x8).1 = fun _ => 1#1) (b : Fin 4096) (l : Fin 200) :
    ∃ k : Fin 128, x0 (ix3 b l 1) = (((k : ℕ) : ℝ) : EReal) := by
  have h := congrFun h (ix2 b l)
  unfold Cert.Pre_finite_ids.fn Cert.Pre_finite_ids.fn_part1 at h
  pointwise at h
  rw [and_one, and_one, bit_one, bit_one, bit_one, Consts.c127] at h
  exact whole_number _ h.1.1 h.1.2 h.2

/-- `x` is real. -/
theorem real0 (h : (Cert.Pre_finite_ids.fn (F := Ideal) x0 x1 x2 x3 x4 x5 x6 x7 x8).2.1 = fun _ => 1#1)
    (b : Fin 4096) (l : Fin 200) (k : Fin 3) : ∃ r : ℝ, x0 (ix3 b l k) = (r : EReal) := by
  have h := congrFun h (ix3 b l k)
  unfold Cert.Pre_finite_ids.fn Cert.Pre_finite_ids.fn_part1 at h
  pointwise at h
  exact real_of_abs_lt _ h

/-- The marks are real. -/
theorem real1 (h : (Cert.Pre_finite_ids.fn (F := Ideal) x0 x1 x2 x3 x4 x5 x6 x7 x8).2.2.1 = fun _ => 1#1)
    (b : Fin 4096) (l : Fin 200) : ∃ r : ℝ, x1 (ix3 b l 0) = (r : EReal) := by
  have h := congrFun h (ix3 b l 0)
  unfold Cert.Pre_finite_ids.fn Cert.Pre_finite_ids.fn_part1 at h
  pointwise at h
  exact real_of_abs_lt _ h

/-- The weight of the linear channel is real. -/
theorem real4 (h : (Cert.Pre_finite_ids.fn (F := Ideal) x0 x1 x2 x3 x4 x5 x6 x7 x8).2.2.2.1 = fun _ => 1#1) :
    ∃ r : ℝ, x4 (ix2 0 0) = (r : EReal) := by
  have h := congrFun h (ix2 0 0)
  unfold Cert.Pre_finite_ids.fn Cert.Pre_finite_ids.fn_part1 at h
  pointwise at h
  exact real_of_abs_lt _ h

/-- The bias of the linear channel is real. -/
theorem real5 (h : (Cert.Pre_finite_ids.fn (F := Ideal) x0 x1 x2 x3 x4 x5 x6 x7 x8).2.2.2.2.1 = fun _ => 1#1) :
    ∃ r : ℝ, x5 (ix1 0) = (r : EReal) := by
  have h := congrFun h (ix1 0)
  unfold Cert.Pre_finite_ids.fn Cert.Pre_finite_ids.fn_part1 at h
  pointwise at h
  exact real_of_abs_lt _ h

/-- The table is real. -/
theorem real6 (h : (Cert.Pre_finite_ids.fn (F := Ideal) x0 x1 x2 x3 x4 x5 x6 x7 x8).2.2.2.2.2.1 = fun _ => 1#1)
    (k : Fin 128) (d : Fin 64) : ∃ r : ℝ, x6 (ix2 k d) = (r : EReal) := by
  have h := congrFun h (ix2 k d)
  unfold Cert.Pre_finite_ids.fn Cert.Pre_finite_ids.fn_part1 at h
  pointwise at h
  exact real_of_abs_lt _ h

/-- The weights of the value term are real. -/
theorem real7 (h : (Cert.Pre_finite_ids.fn (F := Ideal) x0 x1 x2 x3 x4 x5 x6 x7 x8).2.2.2.2.2.2.1 = fun _ => 1#1)
    (d : Fin 64) : ∃ r : ℝ, x7 (ix2 d 0) = (r : EReal) := by
  have h := congrFun h (ix2 d 0)
  unfold Cert.Pre_finite_ids.fn Cert.Pre_finite_ids.fn_part1 at h
  pointwise at h
  exact real_of_abs_lt _ h

/-- The biases of the value term are real. -/
theorem real8 (h : (Cert.Pre_finite_ids.fn (F := Ideal) x0 x1 x2 x3 x4 x5 x6 x7 x8).2.2.2.2.2.2.2 = fun _ => 1#1)
    (d : Fin 64) : ∃ r : ℝ, x8 (ix1 d) = (r : EReal) := by
  have h := congrFun h (ix1 d)
  unfold Cert.Pre_finite_ids.fn Cert.Pre_finite_ids.fn_part1 at h
  pointwise at h
  exact real_of_abs_lt _ h

end

end Cert.Ids

end
-- ==== Proof.Sine.lean ====
/- The sine against its Taylor polynomial of degree 13: over the reals they differ by at most `|t|^15 / 15!`. The proof
   goes through the complex exponential on the imaginary axis: the remainder of its series after `n` terms has the
   remainder after `n - 1` terms for its derivative, up to a factor of norm 1, and the first remainder has norm 1. -/
module

public import proofs.«01_k».proof.Proof.Taylor
public import Mathlib.Analysis.Calculus.MeanValue
public import Mathlib.Analysis.SpecialFunctions.ExpDeriv
public import Mathlib.Analysis.Complex.Trigonometric
public import Mathlib.Analysis.Complex.RealDeriv
public import Mathlib.Tactic.FieldSimp

@[expose] public section

noncomputable section

namespace Cert.Taylor

/-- The first `n` terms of the series of `exp (x * I)`. -/
def partialExp : ℕ → ℝ → ℂ
  | 0, _ => 0
  | n + 1, x => partialExp n x + ((x : ℂ) * Complex.I) ^ n / (n.factorial : ℂ)

/-- The derivative of the function `x * I` of a real `x`. -/
theorem hasDerivAt_mulI (x : ℝ) : HasDerivAt (fun y : ℝ => (y : ℂ) * Complex.I) Complex.I x := by
  simpa using (Complex.ofRealCLM.hasDerivAt (x := x)).mul_const Complex.I

/-- The derivative of one more term is the term before it, times `I`. -/
theorem hasDerivAt_partialExp (n : ℕ) (x : ℝ) :
    HasDerivAt (partialExp (n + 1)) (Complex.I * partialExp n x) x := by
  induction n with
  | zero =>
    have : partialExp (0 + 1) = fun _ => 1 := by funext y; simp [partialExp]
    rw [this]
    simpa [partialExp] using hasDerivAt_const x (1 : ℂ)
  | succ n ih =>
    have h := ih.add (((hasDerivAt_mulI x).pow (n + 1)).div_const ((n + 1).factorial : ℂ))
    have he : partialExp (n + 1 + 1) = partialExp (n + 1) + fun y : ℝ => ((fun y : ℝ => (y : ℂ) * Complex.I) ^ (n + 1)) y / ((n + 1).factorial : ℂ) := by
      funext y; simp [partialExp]
    rw [he]
    refine h.congr_deriv ?_
    have hf : ((n.factorial : ℕ) : ℂ) ≠ 0 := by exact_mod_cast n.factorial_ne_zero
    have hn : ((n : ℂ) + 1) ≠ 0 := by exact_mod_cast n.succ_ne_zero
    rw [partialExp, Nat.factorial_succ]
    push_cast
    field_simp

/-- The remainder of the series of `exp (x * I)` after `n` terms is at most `x ^ n / n!`, for `x` from 0 on. -/
theorem norm_remainder_le (n : ℕ) : ∀ x : ℝ, 0 ≤ x →
    ‖Complex.exp ((x : ℂ) * Complex.I) - partialExp n x‖ ≤ x ^ n / (n.factorial : ℝ) := by
  induction n with
  | zero => intro x _; simp [partialExp, Complex.norm_exp_ofReal_mul_I]
  | succ n ih =>
    intro x hx
    have hd : ∀ y : ℝ, HasDerivAt (fun y : ℝ => Complex.exp ((y : ℂ) * Complex.I) - partialExp (n + 1) y)
        (Complex.I * (Complex.exp ((y : ℂ) * Complex.I) - partialExp n y)) y := fun y => by
      refine ((hasDerivAt_mulI y).cexp.sub (hasDerivAt_partialExp n y)).congr_deriv ?_
      ring
    have hB : ∀ y : ℝ, HasDerivAt (fun y : ℝ => y ^ (n + 1) / ((n + 1).factorial : ℝ)) (y ^ n / (n.factorial : ℝ)) y := fun y => by
      refine ((hasDerivAt_pow (n + 1) y).div_const _).congr_deriv ?_
      have hf : ((n.factorial : ℕ) : ℝ) ≠ 0 := by exact_mod_cast n.factorial_ne_zero
      have hn : ((n : ℝ) + 1) ≠ 0 := by exact_mod_cast n.succ_ne_zero
      rw [Nat.factorial_succ]
      push_cast
      field_simp
    refine image_norm_le_of_norm_deriv_right_le_deriv_boundary (a := 0) (b := x)
      (fun y _ => (hd y).continuousAt.continuousWithinAt) (fun y _ => (hd y).hasDerivWithinAt) ?_ hB
      (fun y hy => ?_) ⟨hx, le_rfl⟩
    · have : partialExp (n + 1) 0 = 1 := by
        clear ih hd hB
        induction n with
        | zero => simp [partialExp]
        | succ n ihn => rw [partialExp, ihn]; simp
      simp [this]
    · rw [norm_mul, Complex.norm_I, one_mul]
      exact ih y hy.1

/-- The imaginary part of the first fifteen terms is the Taylor polynomial of the sine. -/
theorem partialExp_im (x : ℝ) : (partialExp 15 x).im = poly x := by
  have h : partialExp 15 x = ((1 - x ^ 2 / 2 + x ^ 4 / 24 - x ^ 6 / 720 + x ^ 8 / 40320 - x ^ 10 / 3628800 + x ^ 12 / 479001600
      - x ^ 14 / 87178291200 : ℝ) : ℂ) + ((poly x : ℝ) : ℂ) * Complex.I := by
    have h2 : Complex.I ^ 2 = -1 := Complex.I_sq
    simp only [partialExp, poly, mul_pow, Nat.factorial]
    push_cast
    linear_combination ((x : ℂ) ^ 2 / 2 + (x : ℂ) ^ 3 * Complex.I / 6 + (x : ℂ) ^ 6 / 720 + (x : ℂ) ^ 7 * Complex.I / 5040
      + (x : ℂ) ^ 10 / 3628800 + (x : ℂ) ^ 11 * Complex.I / 39916800 + (x : ℂ) ^ 14 / 87178291200) * h2
  rw [h, Complex.add_im, Complex.ofReal_im, Complex.mul_I_im, Complex.ofReal_re, zero_add]

/-- The sine is within `|x| ^ 15 / 15!` of its Taylor polynomial of degree 13. -/
theorem abs_sin_sub_poly_le (x : ℝ) : |Real.sin x - poly x| ≤ |x| ^ 15 / 1307674368000 := by
  have hpos : ∀ x : ℝ, 0 ≤ x → |Real.sin x - poly x| ≤ x ^ 15 / 1307674368000 := fun x hx => by
    have h := (Complex.abs_im_le_norm _).trans (norm_remainder_le 15 x hx)
    rw [Complex.sub_im, Complex.exp_ofReal_mul_I_im, partialExp_im] at h
    refine h.trans (le_of_eq ?_)
    norm_num [Nat.factorial]
  rcases le_total 0 x with hx | hx
  · rw [abs_of_nonneg hx]; exact hpos x hx
  · have h := hpos (-x) (by linarith)
    have hp : poly (-x) = -poly x := by unfold poly; ring
    rw [Real.sin_neg, hp, ← neg_sub', abs_neg] at h
    rw [abs_of_nonpos hx]
    exact h

end Cert.Taylor
end
-- ==== Proof.Near.lean ====
/- The distance test of the second value claim, entry by entry, and why it passes. -/
module

public import proofs.«01_k».proof.Proof.Gen.Post_near_sine
public import proofs.«01_k».proof.Proof.Lookup
public import proofs.«01_k».proof.Proof.Plain
public import proofs.«01_k».proof.Proof.Sine
public import proofs.«01_k».proof.Proof.Ids
public import proofs.«01_k».proof.Proof.Consts
public import Idealize.ShloMosaic.Lib.Pointwise
public import Idealize.ShloMosaic.Lib.Tactic.CleanTypes

@[expose] public section

set_option maxRecDepth 16384

noncomputable section

namespace Cert.Near

open Idealize.ShloMosaic Cert.Post_near_sine

/-- The absolute value of a real number. -/
theorem abs_coe (r : ℝ) : FloatOps.absf (F := Ideal) (φ := .f32) ((r : ℝ) : EReal) = ((|r| : ℝ) : EReal) := by
  change max ((r : ℝ) : EReal) (-((r : ℝ) : EReal)) = _
  rw [← EReal.coe_neg, abs_eq_max_neg]
  exact (Monotone.map_max EReal.coe_strictMono.monotone).symm

/-- The fifteenth power, multiplied out as the distance test does, over `13!` and then over `14 * 15`. -/
def margin (a : EReal) : EReal :=
  Ideal.div (Ideal.div (a * (a * a) * (a * a * (a * a)) * (a * a * (a * a) * (a * a * (a * a))))
    (Ideal.ofBits FTy.f32 1337562214#32)) (Ideal.ofBits FTy.f32 1129447424#32)

/-- Of a real number, that is the fifteenth power over `15!`. -/
theorem margin_coe (a : ℝ) : margin ((a : ℝ) : EReal) = ((a ^ 15 / 1307674368000 : ℝ) : EReal) := by
  unfold margin
  rw [show Ideal.ofBits FTy.f32 1337562214#32 = _ from Consts.fact13, show Ideal.ofBits FTy.f32 1129447424#32 = _ from Consts.c210]
  simp only [← EReal.coe_mul]
  rw [Taylor.div_coe_coe _ (by norm_num : (6227020800 : ℝ) ≠ 0), Taylor.div_coe_coe _ (by norm_num : (210 : ℝ) ≠ 0), EReal.coe_eq_coe_iff]
  ring

/-- On the sine channels the polynomial's value is within the margin. -/
theorem close (t e v mark : ℝ) :
    FloatOps.absf (F := Ideal) (φ := .f32) ((Taylor.hornerOf (t : EReal) + (e : EReal) + (v : EReal)) * (mark : EReal)
        - (Ideal.sin (t : EReal) + (e : EReal) + (v : EReal)) * (mark : EReal))
      ≤ margin (FloatOps.absf (F := Ideal) (φ := .f32) (t : EReal)) * FloatOps.absf (F := Ideal) (φ := .f32) (mark : EReal) := by
  rw [Taylor.hornerOf_coe, Ideal.sin_coe, abs_coe, abs_coe, margin_coe]
  simp only [← EReal.coe_mul, ← EReal.coe_add, ← EReal.coe_sub]
  rw [abs_coe, EReal.coe_le_coe_iff]
  have h := Taylor.abs_sin_sub_poly_le t
  rw [show (Taylor.poly t + e + v) * mark - (Real.sin t + e + v) * mark = -((Real.sin t - Taylor.poly t) * mark) by ring,
    abs_neg, abs_mul]
  exact mul_le_mul_of_nonneg_right h (abs_nonneg _)

/-- Where the sine's argument is infinite, so is the margin, and nothing is left to show: a mark of zero makes both results
    zero. -/
theorem unbounded (t : EReal) (ht : t = ⊤ ∨ t = ⊥) (y z : EReal) (mark : ℝ) :
    FloatOps.absf (F := Ideal) (φ := .f32) (y * (mark : EReal) - z * (mark : EReal))
      ≤ margin (FloatOps.absf (F := Ideal) (φ := .f32) t) * FloatOps.absf (F := Ideal) (φ := .f32) (mark : EReal) := by
  have ha : FloatOps.absf (F := Ideal) (φ := .f32) t = (⊤ : EReal) := by
    change max t (-t) = ⊤
    rcases ht with rfl | rfl <;> simp
  have hm : margin (⊤ : EReal) = ⊤ := by
    unfold margin
    rw [show Ideal.ofBits FTy.f32 1337562214#32 = _ from Consts.fact13, show Ideal.ofBits FTy.f32 1129447424#32 = _ from Consts.c210,
      Ideal.div_coe (by norm_num : (6227020800 : ℝ) ≠ 0), Ideal.div_coe (by norm_num : (210 : ℝ) ≠ 0)]
    simp only [EReal.top_mul_top]
    rw [EReal.top_mul_coe_of_pos (by norm_num), EReal.top_mul_coe_of_pos (by norm_num)]
  rw [ha, hm, abs_coe]
  by_cases h : mark = 0
  · subst h
    have h0 := abs_coe 0
    simp only [EReal.coe_zero, abs_zero, mul_zero, sub_zero] at h0 ⊢
    rw [h0]
  · rw [EReal.top_mul_coe_of_pos (abs_pos.mpr h)]
    exact le_top

/-- On the linear channel the two are equal, so their distance is within zero. -/
theorem same (y e v mark : ℝ) :
    FloatOps.absf (F := Ideal) (φ := .f32) (((y : EReal) + (e : EReal) + (v : EReal)) * (mark : EReal)
        - ((y : EReal) + (e : EReal) + (v : EReal)) * (mark : EReal))
      ≤ 0 * FloatOps.absf (F := Ideal) (φ := .f32) (mark : EReal) := by
  simp only [← EReal.coe_mul, ← EReal.coe_add, ← EReal.coe_sub]
  rw [abs_coe, sub_self, abs_zero, zero_mul, EReal.coe_zero]

variable (x0 : FVec Ideal S4096x200x3 .f32) (x1 : FVec Ideal S4096x200x1 .f32)
  (x2 : FVec Ideal S63x1 .f32) (x3 : FVec Ideal S63 .f32) (x4 : FVec Ideal S1x1 .f32)
  (x5 : FVec Ideal S1 .f32) (x6 : FVec Ideal S128x64 .f32) (x7 : FVec Ideal S64x1 .f32)
  (x8 : FVec Ideal S64 .f32) (x9 : FVec Ideal S4096x200x64 .f32)

/-- Where every number read, the sine's weights and biases excepted, is real and the id is a row number, the common form with the polynomial passes the test. -/
theorem passes [Cert.Post_near_sine.Facts] (b : Fin 4096) (l : Fin 200) (d : Fin 64) (k : Fin 128)
    (hx : x0 (ix3 b l 1) = (((k : ℕ) : ℝ) : EReal))
    (h0 : ∀ j : Fin 3, ∃ r : ℝ, x0 (ix3 b l j) = (r : EReal)) (h1 : ∃ r : ℝ, x1 (ix3 b l 0) = (r : EReal))
    (h4 : ∃ r : ℝ, x4 (ix2 0 0) = (r : EReal)) (h5 : ∃ r : ℝ, x5 (ix1 0) = (r : EReal))
    (h6 : ∃ r : ℝ, x6 (ix2 k d) = (r : EReal)) (h7 : ∃ r : ℝ, x7 (ix2 d 0) = (r : EReal))
    (h8 : ∃ r : ℝ, x8 (ix1 d) = (r : EReal))
    (hout : x9 (ix3 b l d) = Plain.entry Taylor.hornerOf x0 x1 x2 x3 x4 x5 x6 x7 x8 k b l d) :
    Cert.Post_near_sine.fn (F := Ideal) x0 x1 x2 x3 x4 x5 x6 x7 x8 x9 (ix3 b l d) = 1#1 := by
  have hw := Lookup.wrap_ofNat k
  unfold Lookup.wrap at hw
  have hg : ∀ (T : Vec Ideal S128x64 .f32) (I : IVec S4096x200x1 32) (hI : I (ix3 b l 0) = BitVec.ofNat 32 k),
      Host.gather gather_S128x64_S4096x200x1_S4096x200x64_2_0_n_n_0_2_164 T I (ix3 b l d) = T (ix2 k d) :=
    fun T I hI => Lookup.gather_apply Facts.gather_S128x64_S4096x200x1_S4096x200x64_2_0_n_n_0_2_164_wf T I b l d k hI
  unfold fn fn_part1 fn_part2 fn_take fn_where
  clean_types
  pointwise
  rw [hg]
  case hI =>
    pointwise
    rw [hx, Lookup.word_coe, hw]
  simp only [hx, Lookup.word_coe, hw, Lookup.inRange, Lookup.fold_one, Finset.univ_unique, Finset.sum_singleton, Lookup.select_one]
  rw [Ids.bit_one, hout]
  obtain ⟨r0, e0⟩ := h0 0
  obtain ⟨r2, e2⟩ := h0 2
  obtain ⟨mark, e1⟩ := h1
  obtain ⟨tab, e6⟩ := h6
  obtain ⟨wv, e7⟩ := h7
  obtain ⟨bv, e8⟩ := h8
  have ev : x0 (ix3 b l 2) * x7 (ix2 d 0) + x8 (ix1 d) = ((r2 * wv + bv : ℝ) : EReal) := by
    rw [e2, e7, e8, EReal.coe_add, EReal.coe_mul]
  unfold Plain.entry
  rw [ev, e1, e6]
  by_cases h : (d : ℕ) < 1
  · obtain rfl : d = 0 := Fin.ext (by simp; omega)
    obtain ⟨wl, e4⟩ := h4
    obtain ⟨bl, e5⟩ := h5
    have et : x0 (ix3 b l 0) * x4 (ix2 0 0) + x5 (ix1 0) = ((r0 * wl + bl : ℝ) : EReal) := by
      rw [e0, e4, e5, EReal.coe_add, EReal.coe_mul]
    have hs := same (r0 * wl + bl) tab (r2 * wv + bv) mark
    rw [← et] at hs
    exact hs
  · rw [dif_neg h, dif_neg h, dif_neg h]
    have hs : ∀ t : EReal, FloatOps.absf (F := Ideal) (φ := .f32)
        ((Taylor.hornerOf t + (tab : EReal) + ((r2 * wv + bv : ℝ) : EReal)) * (mark : EReal)
          - (Ideal.sin t + (tab : EReal) + ((r2 * wv + bv : ℝ) : EReal)) * (mark : EReal))
        ≤ margin (FloatOps.absf (F := Ideal) (φ := .f32) t) * FloatOps.absf (F := Ideal) (φ := .f32) (mark : EReal) := by
      intro t
      induction t with
      | bot => exact unbounded _ (.inr rfl) _ _ _
      | top => exact unbounded _ (.inl rfl) _ _ _
      | coe r => exact close r tab (r2 * wv + bv) mark
    exact hs _

end Cert.Near

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_ids
public import proofs.«01_k».proof.Proof.Gen.Pre_finite_ids
public import proofs.«01_k».proof.Proof.Gen.Post_near_sine
public import proofs.«01_k».proof.Proof.Equation
public import proofs.«01_k».proof.Proof.Reference
public import proofs.«01_k».proof.Proof.Ids
public import proofs.«01_k».proof.Proof.Near
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The pipelined program ends with its arguments unchanged and its semaphores at zero, over either kind of numbers. -/
theorem quiet_Kernel : quiescent_Kernel := fun m ρ _ => Cert.Kernel.Gen.frame m ρ

/-- The same of the program with its named constants. -/
theorem quiet_KernelIdeal : quiescent_KernelIdeal := fun m ρ _ => Cert.KernelIdeal.Gen.frame m ρ

/-- The reference ends with its arguments unchanged; it has no semaphores. -/
theorem quiet_ReferenceIdeal : quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Each named constant reads as the number that it is named for. -/
theorem preserves : preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl⟩

/-- At ids the kernel's result is, entry by entry, the common form with the Taylor polynomial. -/
theorem result_eq (m : (ℓ : Loc Cert.KernelIdeal.nD Cert.KernelIdeal.τ Cert.KernelIdeal.sig) → Buf (Elt Ideal) ℓ)
    (c : Dev Cert.KernelIdeal.nD) (b : Fin 4096) (l : Fin 200) (d : Fin 64) (k : Fin 128)
    (hx : Operands.xs m c (ix3 b l 1) = (((k : ℕ) : ℝ) : EReal)) :
    (Cert.KernelIdeal.Gen.dats m 0 c).arrAt 9 Cert.KernelIdeal.cfg0.N (ix3 b l d)
      = Plain.entry Taylor.hornerOf (Operands.xs m c) (Operands.marks m c) (Operands.wSin m c) (Operands.bSin m c)
        (Operands.wLin m c) (Operands.bLin m c) (Operands.table m c) (Operands.wVal m c) (Operands.bVal m c) k b l d :=
  (congrFun (Whole.arr_eq m c) (ix3 b l d)).trans (Whole.value_eq m c b l d k hx)

/-- Where the ids are row numbers, the kernel and the reference with the sine's Taylor polynomial end with equal
    results. -/
theorem algebraic : algebraic_KernelIdeal_ReferenceIdeal_pre_ids := by
  intro m g m' g' hpre hagree
  refine ⟨fun c => (Cert.KernelIdeal.Gen.dats m 0 c).arrAt 9 Cert.KernelIdeal.cfg0.N, Cert.KernelIdeal.Value.run_blocks m g,
    (θ_run Cert.ReferenceIdeal.defs _ _).mono (fun r h c => ⟨(h c).1.trans ?_, (h c).2⟩)
      (Cert.ReferenceIdeal.Value.run (F := Ideal) m' g')⟩
  obtain ⟨a0, a1, a2, a3, a4, a5, a6, a7, a8⟩ := hagree c
  funext i
  obtain ⟨b, l, d, rfl⟩ : ∃ (b : Fin 4096) (l : Fin 200) (d : Fin 64), i = ix3 b l d :=
    ⟨i 0, i 1, i 2, by funext a; fin_cases a <;> rfl⟩
  obtain ⟨k, hk⟩ := Ids.ids _ _ _ _ _ _ _ _ _ (hpre c) b l
  refine (Reference.res_apply m' c b l d k (a0 ▸ hk)).trans ((result_eq m c b l d k hk).trans ?_).symm
  rw [a0, a1, a2, a3, a4, a5, a6, a7, a8]

/-- Where moreover every argument but the sine's weights and biases is real, the kernel's result lies within the distance test's bound of the reference
    with the sine itself. -/
theorem near : holds_KernelIdeal_near_sine_pre_finite_ids := by
  intro m g hpre
  refine (θ_run Cert.KernelIdeal.defs _ _).mono (fun r h c => ?_) (Cert.KernelIdeal.Value.run_blocks m g)
  obtain ⟨h9, h0, h1, h2, h3, h4, h5, h6, h7, h8⟩ := h c
  refine ⟨h0, h1, h2, h3, h4, h5, h6, h7, h8, ?_⟩
  obtain ⟨pk, p0, p1, p4, p5, p6, p7, p8⟩ := hpre c
  rw [h9]
  funext i
  obtain ⟨b, l, d, rfl⟩ : ∃ (b : Fin 4096) (l : Fin 200) (d : Fin 64), i = ix3 b l d :=
    ⟨i 0, i 1, i 2, by funext a; fin_cases a <;> rfl⟩
  obtain ⟨k, hk⟩ := Ids.finite_ids _ _ _ _ _ _ _ _ _ pk b l
  exact Near.passes _ _ _ _ _ _ _ _ _ _ b l d k hk (Ids.real0 _ _ _ _ _ _ _ _ _ p0 b l) (Ids.real1 _ _ _ _ _ _ _ _ _ p1 b l)
    (Ids.real4 _ _ _ _ _ _ _ _ _ p4)
    (Ids.real5 _ _ _ _ _ _ _ _ _ p5) (Ids.real6 _ _ _ _ _ _ _ _ _ p6 k d) (Ids.real7 _ _ _ _ _ _ _ _ _ p7 d)
    (Ids.real8 _ _ _ _ _ _ _ _ _ p8 d) (result_eq m c b l d k hk)

/-- Everything claimed. -/
theorem claim : Cert.Claim :=
  ⟨Cert.Kernel.Gen.facts, Cert.KernelIdeal.Gen.facts, Cert.ReferenceIdeal.Gen.facts, Cert.Pre_ids.Gen.facts,
    Cert.Pre_finite_ids.Gen.facts, Cert.Post_near_sine.Gen.facts, quiet_Kernel, quiet_KernelIdeal,
    fun m ρ _ => quiet_KernelIdeal m ρ trivial, fun m ρ _ => quiet_KernelIdeal m ρ trivial, quiet_ReferenceIdeal,
    fun m ρ _ => quiet_ReferenceIdeal m ρ trivial, preserves, algebraic, near⟩

end Cert.Proof

end
